-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_n" .f32 0x38D1B717#32 ((10000⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S_ : Shape := ⟨0, ![]⟩

class Facts : Prop where
  bcast_S_S1x10000x128 : S_.BroadcastsInDim S1x10000x128 (![] : Fin 0 → Fin S1x10000x128.rank)
  bcast_S_S10000x10000 : S_.BroadcastsInDim S10000x10000 (![] : Fin 0 → Fin S10000x10000.rank)
  bcast_S_S128x128 : S_.BroadcastsInDim S128x128 (![] : Fin 0 → Fin S128x128.rank)
  bcast_S_S128 : S_.BroadcastsInDim S128 (![] : Fin 0 → Fin S128.rank)
  bcast_S_S1 : S_.BroadcastsInDim S1 (![] : Fin 0 → Fin S1.rank)
  bcast_S_S1x128x128 : S_.BroadcastsInDim S1x128x128 (![] : Fin 0 → Fin S1x128x128.rank)

variable [Facts]

def fn_part1 {F : FTy → Type} [FloatOps F] (main_arg6 : FVec F S1x128x128 .f32) (main_v2 : IVec S1x10000x128 1) (main_v5 : IVec S1x10000x128 1) (main_v8 : IVec S10000x10000 1) (main_v11 : IVec S128x128 1) (main_v14 : IVec S128 1) (main_v17 : IVec S1 1) : IVec S1x10000x128 1 × IVec S1x10000x128 1 × IVec S10000x10000 1 × IVec S128x128 1 × IVec S128 1 × IVec S1 1 × IVec S1x128x128 1 :=
  let main_v18 : FVec F S1x128x128 .f32 := Host.absf main_arg6
  let main_cst_5 : FVec F S_ .f32 := constant S_ .f32 0x7F800000#32
  let main_v19 : FVec F S1x128x128 .f32 := broadcastInDim S1x128x128 ![] bcast_S_S1x128x128 main_cst_5
  let main_v20 : IVec S1x128x128 1 := cmpf .olt main_v18 main_v19
  (main_v2, main_v5, main_v8, main_v11, main_v14, main_v17, main_v20)

def fn {F : FTy → Type} [FloatOps F] (main_arg0 : FVec F S1x10000x128 .f32) (main_arg1 : FVec F S1x10000x128 .f32) (main_arg2 : FVec F S10000x10000 .f32) (main_arg3 : FVec F S128x128 .f32) (main_arg4 : FVec F S128 .f32) (main_arg5 : FVec F S1 .f32) (main_arg6 : FVec F S1x128x128 .f32) (main_arg7 : FVec F S1 .f32) : IVec S1x10000x128 1 × IVec S1x10000x128 1 × IVec S10000x10000 1 × IVec S128x128 1 × IVec S128 1 × IVec S1 1 × IVec S1x128x128 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_v3 : FVec F S1x10000x128 .f32 := Host.absf main_arg1
  let main_cst_0 : FVec F S_ .f32 := constant S_ .f32 0x7F800000#32
  let main_v4 : FVec F S1x10000x128 .f32 := broadcastInDim S1x10000x128 ![] bcast_S_S1x10000x128 main_cst_0
  let main_v5 : IVec S1x10000x128 1 := cmpf .olt main_v3 main_v4
  let main_v6 : FVec F S10000x10000 .f32 := Host.absf main_arg2
  let main_cst_1 : FVec F S_ .f32 := constant S_ .f32 0x7F800000#32
  let main_v7 : FVec F S10000x10000 .f32 := broadcastInDim S10000x10000 ![] bcast_S_S10000x10000 main_cst_1
  let main_v8 : IVec S10000x10000 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S1 .f32 := Host.absf main_arg5
  let main_cst_4 : FVec F S_ .f32 := constant S_ .f32 0x7F800000#32
  let main_v16 : FVec F S1 .f32 := broadcastInDim S1 ![] bcast_S_S1 main_cst_4
  let main_v17 : IVec S1 1 := cmpf .olt main_v15 main_v16
  fn_part1 (F := F) main_arg6 main_v2 main_v5 main_v8 main_v11 main_v14 main_v17
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S10000x128 : Shape := ⟨2, ![10000, 128]⟩
abbrev S1x128 : Shape := ⟨2, ![1, 128]⟩
abbrev S1x1 : Shape := ⟨2, ![1, 1]⟩
abbrev S1x20000 : Shape := ⟨2, ![1, 20000]⟩
abbrev S400x10000 : Shape := ⟨2, ![400, 10000]⟩
abbrev S10000x256 : Shape := ⟨2, ![10000, 256]⟩
abbrev S400x256 : Shape := ⟨2, ![400, 256]⟩
abbrev S400x128 : Shape := ⟨2, ![400, 128]⟩
abbrev S1x256 : Shape := ⟨2, ![1, 256]⟩
abbrev S2x256 : Shape := ⟨2, ![2, 256]⟩
abbrev S2x10000 : Shape := ⟨2, ![2, 10000]⟩
abbrev S1x10000 : Shape := ⟨2, ![1, 10000]⟩
abbrev S10000 : Shape := ⟨1, ![10000]⟩

abbrev nBuf : Space → Nat
  | .hbm => 16
  | .vmem => 13
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S1x128x128, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S128x128, .f32⟩
  | .hbm, ⟨11, _⟩ => ⟨S1x128, .f32⟩
  | .hbm, ⟨12, _⟩ => ⟨S1x1, .f32⟩
  | .hbm, ⟨13, _⟩ => ⟨S128x128, .f32⟩
  | .hbm, ⟨14, _⟩ => ⟨S1x1, .f32⟩
  | .hbm, ⟨15, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S1x1, .f32⟩
  | .local _ .vmem, ⟨5, _⟩ => ⟨S128x128, .f32⟩
  | .local _ .vmem, ⟨6, _⟩ => ⟨S1x1, .f32⟩
  | .local _ .vmem, ⟨7, _⟩ => ⟨S400x10000, .f32⟩
  | .local _ .vmem, ⟨8, _⟩ => ⟨S400x10000, .f32⟩
  | .local _ .vmem, ⟨9, _⟩ => ⟨S1x20000, .f32⟩
  | .local _ .vmem, ⟨10, _⟩ => ⟨S10000x256, .bf16⟩
  | .local _ .vmem, ⟨11, _⟩ => ⟨S10000x256, .bf16⟩
  | .local _ .vmem, ⟨12, _⟩ => ⟨S1x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v15 : BitVec 32 := Scalar.muli arg0 c400_i32
  let v16 : Index := Scalar.indexCast v15
  let c0_7 : Index := 0#32
  ![v16.toNat, 0]
def k0_cond2 (i : grid0.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x20000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((10000⁻¹ : ℝ) : EReal)
  | _ => none
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S1x1x128 : Shape := ⟨3, ![1, 1, 128]⟩
abbrev S10000x128 : Shape := ⟨2, ![10000, 128]⟩
abbrev S_ : Shape := ⟨0, ![]⟩
abbrev S1x128 : Shape := ⟨2, ![1, 128]⟩
abbrev S1x128x1x10000 : Shape := ⟨4, ![1, 128, 1, 10000]⟩
abbrev S1x10000x1 : Shape := ⟨3, ![1, 10000, 1]⟩
abbrev S1x1x1 : Shape := ⟨3, ![1, 1, 1]⟩
abbrev S1x10000 : Shape := ⟨2, ![1, 10000]⟩
abbrev S1x20000 : Shape := ⟨2, ![1, 20000]⟩

abbrev nBuf : Space → Nat
  | .hbm => 66
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S1x128x128, .f32⟩
  | .hbm, ⟨7, _⟩ => ⟨S1, .f32⟩
  | .hbm, ⟨8, _⟩ => ⟨S128x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S10000x128, .f32⟩
  | .hbm, ⟨14, _⟩ => ⟨S10000x128, .f32⟩
  | .hbm, ⟨15, _⟩ => ⟨S1x10000x128, .f32⟩
  | .hbm, ⟨16, _⟩ => ⟨S_, .f32⟩
  | .hbm, ⟨17, _⟩ => ⟨S1x10000x128, .f32⟩
  | .hbm, ⟨18, _⟩ => ⟨S1x10000x128, .i1⟩
  | .hbm, ⟨19, _⟩ => ⟨S_, .f32⟩
  | .hbm, ⟨20, _⟩ => ⟨S1x10000x128, .f32⟩
  | .hbm, ⟨21, _⟩ => ⟨S1x10000x128, .f32⟩
  | .hbm, ⟨22, _⟩ => ⟨S1x10000x128, .f32⟩
  | .hbm, ⟨23, _⟩ => ⟨S128x128, .f32⟩
  | .hbm, ⟨24, _⟩ => ⟨S1x10000x128, .f32⟩
  | .hbm, ⟨25, _⟩ => ⟨S1x1x128, .f32⟩
  | .hbm, ⟨26, _⟩ => ⟨S1x10000x128, .f32⟩
  | .hbm, ⟨27, _⟩ => ⟨S1x10000x128, .f32⟩
  | .hbm, ⟨28, _⟩ => ⟨S10000x128, .f32⟩
  | .hbm, ⟨29, _⟩ => ⟨S10000x128, .f32⟩
  | .hbm, ⟨30, _⟩ => ⟨S1x10000x128, .f32⟩
  | .hbm, ⟨31, _⟩ => ⟨S_, .f32⟩
  | .hbm, ⟨32, _⟩ => ⟨S1x10000x128, .f32⟩
  | .hbm, ⟨33, _⟩ => ⟨S1x10000x128, .i1⟩
  | .hbm, ⟨34, _⟩ => ⟨S_, .f32⟩
  | .hbm, ⟨35, _⟩ => ⟨S1x10000x128, .f32⟩
  | .hbm, ⟨36, _⟩ => ⟨S1x10000x128, .f32⟩
  | .hbm, ⟨37, _⟩ => ⟨S1x10000x128, .f32⟩
  | .hbm, ⟨38, _⟩ => ⟨S_, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x1x128, .f32⟩
  | .hbm, ⟨52, _⟩ => ⟨S1x10000x128, .f32⟩
  | .hbm, ⟨53, _⟩ => ⟨S1x128x1x10000, .f32⟩
  | .hbm, ⟨54, _⟩ => ⟨S1x10000x1, .f32⟩
  | .hbm, ⟨55, _⟩ => ⟨S1x1x1, .f32⟩
  | .hbm, ⟨56, _⟩ => ⟨S1x10000x1, .f32⟩
  | .hbm, ⟨57, _⟩ => ⟨S1x10000x1, .f32⟩
  | .hbm, ⟨58, _⟩ => ⟨S1x10000, .f32⟩
  | .hbm, ⟨59, _⟩ => ⟨S1x128x1x10000, .f32⟩
  | .hbm, ⟨60, _⟩ => ⟨S1x10000x1, .f32⟩
  | .hbm, ⟨61, _⟩ => ⟨S1x1x1, .f32⟩
  | .hbm, ⟨62, _⟩ => ⟨S1x10000x1, .f32⟩
  | .hbm, ⟨63, _⟩ => ⟨S1x10000x1, .f32⟩
  | .hbm, ⟨64, _⟩ => ⟨S1x10000, .f32⟩
  | .hbm, ⟨65, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.KI.Setup.lean ====
/-
  The set-up of the launch of the idealized kernel: which branch of the body each grid point takes, the staging
  buffers a point works on, and the three scratch buffers.
-/
module

public import proofs.«01_k».proof.Proof.Gen.KernelIdeal.Frame
public import proofs.«01_k».proof.Proof.Gen.KernelIdeal.Skeleton
public import Idealize.ShloMosaic.Lib.WordCmp

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_1, k0_cond2, e0]
    word_cmp
   : ∀ t : Fin grid0.N, cond0_1 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The buffers a grid point works on -/

/-- Each window's current staging memref at point `t`, spelled as the pipeline passes it (`bodyAt0`), and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x10000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20000 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S10000x256 .bf16 := Memref.whole cc0_scratch0
abbrev scM0_1 : Memref sig .tc .vmem S10000x256 .bf16 := Memref.whole cc0_scratch1
abbrev scM0_2 : Memref sig .tc .vmem S1x128 .f32 := Memref.whole cc0_scratch2
/-- The frame kit's invariant with the scratch operands as memrefs owned at some contents (`scopedRest0_eq`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Gcn

end
-- ==== Proof.KI.Values.lean ====
/-
  What the buffers of the kernel hold, as plain functions of what they held before: the transformed features, the hidden
  layer with one more block of rows, the output.
-/
module

public import proofs.«01_k».proof.Proof.KI.Setup
public import Idealize.ShloMosaic.Lib.VecWindow
public import Idealize.ShloMosaic.Lib.Pointwise
public import Idealize.ShloMosaic.Lib.Tactic.Stretches

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A read of a whole matrix. -/
theorem readAt_all {κ : Kind} {sp : Space} {e : EltTy} {a b : ℕ} (v : View sig κ sp ⟨2, ![a, b]⟩ e) (f : v.ty.Contents (Elt F))
    (inb : ∀ x, (![0, 0] : Fin 2 → ℕ) x + (![a, b] : Fin 2 → ℕ) x ≤ (⟨2, ![a, b]⟩ : Shape).size x) :
    v.readAt (Elt F) (Rect.unit (s := ⟨2, ![a, b]⟩) ![0, 0] ![a, b] inb).toLoadRect f = v.read (Elt F) f :=
  View.readAt_full v f inb

/-- A matrix written over a whole matrix is what is there afterwards. -/
theorem put_all {α : Type} {a b : ℕ} (x w : (⟨2, ![a, b]⟩ : Shape).Idx → α) :
    VecWindow.put (s := ⟨2, ![a, b]⟩) x ![0, 0] ![a, b] w = w := by
  funext y
  have h : ∀ c, (![0, 0] : Fin 2 → ℕ) c ≤ (y c).val ∧ (y c).val < (![0, 0] : Fin 2 → ℕ) c + (![a, b] : Fin 2 → ℕ) c := fun c => by
    have := (y c).isLt
    match c with
    | ⟨0, _⟩ => exact ⟨Nat.zero_le _, by change (y 0).val < 0 + a; rw [Nat.zero_add]; exact this⟩
    | ⟨1, _⟩ => exact ⟨Nat.zero_le _, by change (y 1).val < 0 + b; rw [Nat.zero_add]; exact this⟩
  unfold VecWindow.put
  rw [dif_pos h]
  exact congrArg w (funext fun c => by match c with | ⟨0, _⟩ => rfl | ⟨1, _⟩ => rfl)

/-- The transformed features of both graphs side by side: columns 0 to 127 of the first, columns 128 to 255 of the second. -/
def yAll (x0 x1 : Vec F S10000x128 .f32) (x2 : Vec F S128x128 .f32) (x3 : Vec F S1x128 .f32) : Vec F S10000x256 .bf16 :=
  fun y => if h : (y 1).val < 128 then k0_pay1 x0 x2 x3 (ix2 (y 0) ⟨(y 1).val, h⟩)
    else k0_pay2 x1 x2 x3 (ix2 (y 0) ⟨(y 1).val - 128, by have := (y 1).isLt; change _ < 256 at this; omega⟩)

/-- The hidden layer's buffer after one grid point: the point's 400 rows stored over what was there. -/
def hStep (i : grid0.Coords) (x4 : Vec F S1x1 .f32) (x7 : Vec F S400x10000 .f32) (y h : Vec F S10000x256 .bf16) : Vec F S10000x256 .bf16 :=
  VecWindow.put h (k0_off1 i) S400x256.size (k0_pay5 x4 x7 y)

/-- The output buffer after the last grid point: the two halves of the scores stored over what was there. -/
def outOf (s : Vec F S1x128 .f32) (x5 : Vec F S128x128 .f32) (x6 : Vec F S1x1 .f32) (h : Vec F S10000x256 .bf16) (o : Vec F S1x20000 .f32) :
    Vec F S1x20000 .f32 :=
  VecWindow.put (VecWindow.put o ![0, 0] S1x10000.size (k0_pay9 s x5 x6 h)) ![0, 10000] S1x10000.size (k0_pay10 s x5 x6 h)

/-- The two halves of the transformed features fill their buffer, whatever it held. -/
theorem put_halves (o : Vec F S10000x256 .bf16) (x0 x1 : Vec F S10000x128 .f32) (x2 : Vec F S128x128 .f32) (x3 : Vec F S1x128 .f32) :
    VecWindow.put (s := S10000x256) (VecWindow.put (s := S10000x256) o ![0, 0] ![10000, 128] (k0_pay1 x0 x2 x3)) ![0, 128] ![10000, 128] (k0_pay2 x1 x2 x3) = yAll x0 x1 x2 x3 := by
  funext y
  have h0 : (y 0).val < 10000 := (y 0).isLt
  have h1 : (y 1).val < 256 := (y 1).isLt
  by_cases h : (y 1).val < 128
  · have hn : ¬∀ a, (![0, 128] : Fin 2 → ℕ) a ≤ (y a).val ∧ (y a).val < (![0, 128] : Fin 2 → ℕ) a + S10000x128.size a := fun hh => by
      have := (hh 1).1; change 128 ≤ (y 1).val at this; omega
    have hp : ∀ a, (![0, 0] : Fin 2 → ℕ) a ≤ (y a).val ∧ (y a).val < (![0, 0] : Fin 2 → ℕ) a + S10000x128.size a := fun a => by
      match a with
      | ⟨0, _⟩ => exact ⟨Nat.zero_le _, by change (y 0).val < 0 + 10000; omega⟩
      | ⟨1, _⟩ => exact ⟨Nat.zero_le _, by change (y 1).val < 0 + 128; omega⟩
    unfold VecWindow.put yAll
    rw [dif_neg hn, dif_pos hp, dif_pos h]
    exact congrArg _ (funext fun a => by match a with | ⟨0, _⟩ => rfl | ⟨1, _⟩ => rfl)
  · have hp : ∀ a, (![0, 128] : Fin 2 → ℕ) a ≤ (y a).val ∧ (y a).val < (![0, 128] : Fin 2 → ℕ) a + S10000x128.size a := fun a => by
      match a with
      | ⟨0, _⟩ => exact ⟨Nat.zero_le _, by change (y 0).val < 0 + 10000; omega⟩
      | ⟨1, _⟩ => exact ⟨by change 128 ≤ (y 1).val; omega, by change (y 1).val < 128 + 128; omega⟩
    unfold VecWindow.put yAll
    rw [dif_pos hp, dif_neg h]
    exact congrArg _ (funext fun a => by match a with | ⟨0, _⟩ => rfl | ⟨1, _⟩ => rfl)

/-- The offsets of the rows a grid point stores, in closed form. -/
theorem off1_eq (i : grid0.Coords) : k0_off1 i = ![400 * (i 0).val, 0] := by
  have hi : (i 0).val < 25 := (i 0).isLt
  funext a
  match a with
  | ⟨0, _⟩ =>
    change (BitVec.ofNat 32 (i 0).val * 400#32).toNat = _
    rw [BitVec.toNat_mul, BitVec.toNat_ofNat]
    change (i 0).val % 4294967296 * 400 % 4294967296 = 400 * (i 0).val
    omega
  | ⟨1, _⟩ => rfl

/-- The scores of both graphs side by side: positions 0 to 9999 of the first, 10000 to 19999 of the second. -/
def scores (s : Vec F S1x128 .f32) (x5 : Vec F S128x128 .f32) (x6 : Vec F S1x1 .f32) (h : Vec F S10000x256 .bf16) : Vec F S1x20000 .f32 :=
  fun y => if hy : (y 1).val < 10000 then k0_pay9 s x5 x6 h (ix2 (y 0) ⟨(y 1).val, hy⟩)
    else k0_pay10 s x5 x6 h (ix2 (y 0) ⟨(y 1).val - 10000, by have := (y 1).isLt; change _ < 20000 at this; omega⟩)

/-- The two halves of the scores fill the output buffer, whatever it held. -/
theorem outOf_eq (s : Vec F S1x128 .f32) (x5 : Vec F S128x128 .f32) (x6 : Vec F S1x1 .f32) (h : Vec F S10000x256 .bf16) (o : Vec F S1x20000 .f32) :
    outOf s x5 x6 h o = scores s x5 x6 h := by
  funext y
  have h0 : (y 0).val < 1 := (y 0).isLt
  have h1 : (y 1).val < 20000 := (y 1).isLt
  by_cases hy : (y 1).val < 10000
  · have hn : ¬∀ a, (![0, 10000] : Fin 2 → ℕ) a ≤ (y a).val ∧ (y a).val < (![0, 10000] : Fin 2 → ℕ) a + S1x10000.size a := fun hh => by
      have := (hh 1).1; change 10000 ≤ (y 1).val at this; omega
    have hp : ∀ a, (![0, 0] : Fin 2 → ℕ) a ≤ (y a).val ∧ (y a).val < (![0, 0] : Fin 2 → ℕ) a + S1x10000.size a := fun a => by
      match a with
      | ⟨0, _⟩ => exact ⟨Nat.zero_le _, by change (y 0).val < 0 + 1; omega⟩
      | ⟨1, _⟩ => exact ⟨Nat.zero_le _, by change (y 1).val < 0 + 10000; omega⟩
    unfold outOf VecWindow.put scores
    rw [dif_neg hn, dif_pos hp, dif_pos hy]
    exact congrArg _ (funext fun a => by match a with | ⟨0, _⟩ => rfl | ⟨1, _⟩ => rfl)
  · have hp : ∀ a, (![0, 10000] : Fin 2 → ℕ) a ≤ (y a).val ∧ (y a).val < (![0, 10000] : Fin 2 → ℕ) a + S1x10000.size a := fun a => by
      match a with
      | ⟨0, _⟩ => exact ⟨Nat.zero_le _, by change (y 0).val < 0 + 1; omega⟩
      | ⟨1, _⟩ => exact ⟨by change 10000 ≤ (y 1).val; omega, by change (y 1).val < 10000 + 10000; omega⟩
    unfold outOf VecWindow.put scores
    rw [dif_pos hp, dif_neg hy]
    exact congrArg _ (funext fun a => by match a with | ⟨0, _⟩ => rfl | ⟨1, _⟩ => rfl)

/-- The hidden layer's buffer after a grid point, at one of the point's rows: what the point stored there. -/
theorem hStep_in (i : grid0.Coords) (x4 : Vec F S1x1 .f32) (x7 : Vec F S400x10000 .f32) (y h : Vec F S10000x256 .bf16) (z : S10000x256.Idx)
    (r : Fin 400) (hr : (z 0).val = 400 * (i 0).val + r.val) : hStep i x4 x7 y h z = k0_pay5 x4 x7 y (ix2 r (z 1)) := by
  have hp : ∀ a, (![400 * (i 0).val, 0] : Fin 2 → ℕ) a ≤ (z a).val ∧ (z a).val < (![400 * (i 0).val, 0] : Fin 2 → ℕ) a + S400x256.size a := fun a => by
    match a with
    | ⟨0, _⟩ => exact ⟨by change 400 * (i 0).val ≤ (z 0).val; omega, by change (z 0).val < 400 * (i 0).val + 400; have := r.isLt; omega⟩
    | ⟨1, _⟩ => exact ⟨Nat.zero_le _, by change (z 1).val < 0 + 256; have : (z 1).val < 256 := (z 1).isLt; omega⟩
  unfold hStep VecWindow.put
  rw [off1_eq i, dif_pos hp]
  refine congrArg _ (funext fun a => ?_)
  match a with
  | ⟨0, _⟩ => exact Fin.ext (by change (z 0).val - 400 * (i 0).val = r.val; omega)
  | ⟨1, _⟩ => rfl

/-- The hidden layer's buffer after a grid point, at any other row: what was there. -/
theorem hStep_out (i : grid0.Coords) (x4 : Vec F S1x1 .f32) (x7 : Vec F S400x10000 .f32) (y h : Vec F S10000x256 .bf16) (z : S10000x256.Idx)
    (hz : (z 0).val < 400 * (i 0).val) : hStep i x4 x7 y h z = h z := by
  have hn : ¬∀ a, (![400 * (i 0).val, 0] : Fin 2 → ℕ) a ≤ (z a).val ∧ (z a).val < (![400 * (i 0).val, 0] : Fin 2 → ℕ) a + S400x256.size a := fun hh => by
    have := (hh 0).1; change 400 * (i 0).val ≤ (z 0).val at this; omega
  unfold hStep VecWindow.put
  rw [off1_eq i, dif_neg hn]

end Cert.Gcn

end
-- ==== Proof.KI.RunA.lean ====
/-
  The body at the first grid point, as one specification: what every buffer holds before and after.
-/
module

public import proofs.«01_k».proof.Proof.KI.Values

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S10000x128 .f32) (harg1 : arg1.IsWhole)
variable (arg2 : Memref sig .tc .vmem S10000x128 .f32) (harg2 : arg2.IsWhole)
variable (arg3 : Memref sig .tc .vmem S128x128 .f32) (harg3 : arg3.IsWhole)
variable (arg4 : Memref sig .tc .vmem S1x128 .f32) (harg4 : arg4.IsWhole)
variable (arg5 : Memref sig .tc .vmem S1x1 .f32) (harg5 : arg5.IsWhole)
variable (arg6 : Memref sig .tc .vmem S128x128 .f32) (harg6 : arg6.IsWhole)
variable (arg7 : Memref sig .tc .vmem S1x1 .f32) (harg7 : arg7.IsWhole)
variable (arg8 : Memref sig .tc .vmem S400x10000 .f32) (harg8 : arg8.IsWhole)
variable (arg9 : Memref sig .tc .vmem S1x20000 .f32) (harg9 : arg9.IsWhole)
variable (arg10 : Memref sig .tc .vmem S10000x256 .bf16) (harg10 : arg10.IsWhole)
variable (arg11 : Memref sig .tc .vmem S10000x256 .bf16) (harg11 : arg11.IsWhole)
variable (arg12 : Memref sig .tc .vmem S1x128 .f32) (harg12 : arg12.IsWhole)

set_option maxHeartbeats 2000000 in
/-- The first grid point: the transformed features are stored, the column sums start from zero, block 0's rows of the hidden layer are
    stored and added to the sums; the output buffer is not touched. -/
theorem runA (c : Dev nD) (i : grid0.Coords) (hc0 : cond0_0 i) (hc1 : ¬cond0_1 i)
    (x0 x1 : Vec F S10000x128 .f32) (x2 : Vec F S128x128 .f32) (x3 : Vec F S1x128 .f32) (x4 : Vec F S1x1 .f32) (x5 : Vec F S128x128 .f32)
    (x6 : Vec F S1x1 .f32) (x7 : Vec F S400x10000 .f32) (x8 : Vec F S1x20000 .f32) (xs0 xs1 : Vec F S10000x256 .bf16) (xs2 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare x8 ∗ owns (c : Thread nD τ) arg10 fullShare xs0 ∗ owns (c : Thread nD τ) arg11 fullShare xs1 ∗ owns (c : Thread nD τ) arg12 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare x8
      ∗ owns (c : Thread nD τ) arg10 fullShare (yAll x0 x1 x2 x3)
      ∗ owns (c : Thread nD τ) arg11 fullShare (hStep i x4 x7 (yAll x0 x1 x2 x3) xs1)
      ∗ owns (c : Thread nD τ) arg12 fullShare (k0_pay6 x4 x7 (yAll x0 x1 x2 x3) k0_pay3)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr; swap; · iexact HS0
    ipureintro
    · sl_open_run
      simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
      exact put_halves _ _ _ _ _
  isplitl [HS1]
  · iexists _; isplitr; swap; · iexact HS1
    ipureintro
    · sl_open_run
      simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
      exact congrArg (fun y => VecWindow.put xs1 (k0_off1 i) ![400, 256] (k0_pay5 x4 x7 y)) (put_halves _ x0 x1 x2 x3)
  iexists _; isplitr; swap; · iexact HS2
  ipureintro
  · sl_open_run
    simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
    exact congrArg (fun y => k0_pay6 x4 x7 y k0_pay3) (put_halves _ x0 x1 x2 x3)

end Cert.Gcn

end
-- ==== Proof.KI.RunB.lean ====
/-
  The body at a grid point that is neither the first nor the last, as one specification: what every buffer holds before and after.
-/
module

public import proofs.«01_k».proof.Proof.KI.Values

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S10000x128 .f32) (harg1 : arg1.IsWhole)
variable (arg2 : Memref sig .tc .vmem S10000x128 .f32) (harg2 : arg2.IsWhole)
variable (arg3 : Memref sig .tc .vmem S128x128 .f32) (harg3 : arg3.IsWhole)
variable (arg4 : Memref sig .tc .vmem S1x128 .f32) (harg4 : arg4.IsWhole)
variable (arg5 : Memref sig .tc .vmem S1x1 .f32) (harg5 : arg5.IsWhole)
variable (arg6 : Memref sig .tc .vmem S128x128 .f32) (harg6 : arg6.IsWhole)
variable (arg7 : Memref sig .tc .vmem S1x1 .f32) (harg7 : arg7.IsWhole)
variable (arg8 : Memref sig .tc .vmem S400x10000 .f32) (harg8 : arg8.IsWhole)
variable (arg9 : Memref sig .tc .vmem S1x20000 .f32) (harg9 : arg9.IsWhole)
variable (arg10 : Memref sig .tc .vmem S10000x256 .bf16) (harg10 : arg10.IsWhole)
variable (arg11 : Memref sig .tc .vmem S10000x256 .bf16) (harg11 : arg11.IsWhole)
variable (arg12 : Memref sig .tc .vmem S1x128 .f32) (harg12 : arg12.IsWhole)

set_option maxHeartbeats 2000000 in
/-- A middle grid point: its block's rows of the hidden layer are stored and added to the column sums; nothing else changes. -/
theorem runB (c : Dev nD) (i : grid0.Coords) (hc0 : ¬cond0_0 i) (hc1 : ¬cond0_1 i)
    (x0 x1 : Vec F S10000x128 .f32) (x2 : Vec F S128x128 .f32) (x3 : Vec F S1x128 .f32) (x4 : Vec F S1x1 .f32) (x5 : Vec F S128x128 .f32)
    (x6 : Vec F S1x1 .f32) (x7 : Vec F S400x10000 .f32) (x8 : Vec F S1x20000 .f32) (xs0 xs1 : Vec F S10000x256 .bf16) (xs2 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare x8 ∗ owns (c : Thread nD τ) arg10 fullShare xs0 ∗ owns (c : Thread nD τ) arg11 fullShare xs1 ∗ owns (c : Thread nD τ) arg12 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare x8
      ∗ owns (c : Thread nD τ) arg10 fullShare xs0
      ∗ owns (c : Thread nD τ) arg11 fullShare (hStep i x4 x7 xs0 xs1)
      ∗ owns (c : Thread nD τ) arg12 fullShare (k0_pay6 x4 x7 xs0 xs2)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr; · ipureintro; exact harg10.read_unread _
    iexact HS0
  isplitl [HS1]
  · iexists _; isplitr; swap; · iexact HS1
    ipureintro
    · sl_open_run
      simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
  iexists _; isplitr; swap; · iexact HS2
  ipureintro
  · sl_open_run
    simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]

end Cert.Gcn

end
-- ==== Proof.KI.RunC.lean ====
/-
  The body at the last grid point, as one specification: what every buffer holds before and after.
-/
module

public import proofs.«01_k».proof.Proof.KI.Values

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S10000x128 .f32) (harg1 : arg1.IsWhole)
variable (arg2 : Memref sig .tc .vmem S10000x128 .f32) (harg2 : arg2.IsWhole)
variable (arg3 : Memref sig .tc .vmem S128x128 .f32) (harg3 : arg3.IsWhole)
variable (arg4 : Memref sig .tc .vmem S1x128 .f32) (harg4 : arg4.IsWhole)
variable (arg5 : Memref sig .tc .vmem S1x1 .f32) (harg5 : arg5.IsWhole)
variable (arg6 : Memref sig .tc .vmem S128x128 .f32) (harg6 : arg6.IsWhole)
variable (arg7 : Memref sig .tc .vmem S1x1 .f32) (harg7 : arg7.IsWhole)
variable (arg8 : Memref sig .tc .vmem S400x10000 .f32) (harg8 : arg8.IsWhole)
variable (arg9 : Memref sig .tc .vmem S1x20000 .f32) (harg9 : arg9.IsWhole)
variable (arg10 : Memref sig .tc .vmem S10000x256 .bf16) (harg10 : arg10.IsWhole)
variable (arg11 : Memref sig .tc .vmem S10000x256 .bf16) (harg11 : arg11.IsWhole)
variable (arg12 : Memref sig .tc .vmem S1x128 .f32) (harg12 : arg12.IsWhole)

set_option maxHeartbeats 2000000 in
/-- The last grid point: as a middle one, and then the output buffer is filled from the column sums and the whole hidden layer. -/
theorem runC (c : Dev nD) (i : grid0.Coords) (hc0 : ¬cond0_0 i) (hc1 : cond0_1 i)
    (x0 x1 : Vec F S10000x128 .f32) (x2 : Vec F S128x128 .f32) (x3 : Vec F S1x128 .f32) (x4 : Vec F S1x1 .f32) (x5 : Vec F S128x128 .f32)
    (x6 : Vec F S1x1 .f32) (x7 : Vec F S400x10000 .f32) (x8 : Vec F S1x20000 .f32) (xs0 xs1 : Vec F S10000x256 .bf16) (xs2 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare x8 ∗ owns (c : Thread nD τ) arg10 fullShare xs0 ∗ owns (c : Thread nD τ) arg11 fullShare xs1 ∗ owns (c : Thread nD τ) arg12 fullShare xs2
      ∗ (iprop(owns (c : Thread nD τ) arg1 fullShare x0 ∗ owns (c : Thread nD τ) arg2 fullShare x1 ∗ owns (c : Thread nD τ) arg3 fullShare x2 ∗ owns (c : Thread nD τ) arg4 fullShare x3
      ∗ owns (c : Thread nD τ) arg5 fullShare x4 ∗ owns (c : Thread nD τ) arg6 fullShare x5 ∗ owns (c : Thread nD τ) arg7 fullShare x6 ∗ owns (c : Thread nD τ) arg8 fullShare x7
      ∗ owns (c : Thread nD τ) arg9 fullShare (outOf (k0_pay6 x4 x7 xs0 xs2) x5 x6 (hStep i x4 x7 xs0 xs1) x8)
      ∗ owns (c : Thread nD τ) arg10 fullShare xs0
      ∗ owns (c : Thread nD τ) arg11 fullShare (hStep i x4 x7 xs0 xs1)
      ∗ owns (c : Thread nD τ) arg12 fullShare (k0_pay6 x4 x7 xs0 xs2)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    · sl_open_run
      simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
  isplitl [HS0]
  · iexists _; isplitr; · ipureintro; exact harg10.read_unread _
    iexact HS0
  isplitl [HS1]
  · iexists _; isplitr; swap; · iexact HS1
    ipureintro
    · sl_open_run
      simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]
  iexists _; isplitr; swap; · iexact HS2
  ipureintro
  · sl_open_run
    simp only [hStep, outOf, View.readCov, readAt_all, put_all, View.read_writes_cons_put _ _ _ _ _ rfl, View.writes_nil, harg1.read_unread, harg2.read_unread, harg3.read_unread, harg4.read_unread, harg5.read_unread, harg6.read_unread, harg7.read_unread, harg8.read_unread, harg9.read_unread, harg10.read_unread, harg11.read_unread, harg12.read_unread]

end Cert.Gcn

end
-- ==== Proof.KI.Launch.lean ====
/-
  The launch of the idealized kernel: what its three scratch buffers hold between grid points, the body at every grid
  point, and the run: the output array ends at the scores.
-/
module

public import proofs.«01_k».proof.Proof.KI.RunA
public import proofs.«01_k».proof.Proof.KI.RunB
public import proofs.«01_k».proof.Proof.KI.RunC
public import Idealize.ShloMosaic.Lib.Claim

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The first grid point. -/
abbrev t0 : Fin cfg0.N := ⟨0, by rw [show cfg0.N = 25 from N_0]; omega⟩
/-- The last grid point. -/
abbrev t24 : Fin cfg0.N := ⟨24, by rw [show cfg0.N = 25 from N_0]; omega⟩

/-- The transformed features of the launch. -/
def Yv (c : Dev nD) : Vec F S10000x256 .bf16 := yAll (iblk m c 0 t0) (iblk m c 1 t0) (iblk m c 2 t0) (iblk m c 3 t0)

/-- The hidden layer of the launch: row `n` is computed at grid point `n / 400`, as its row `n % 400`. -/
def Hv (c : Dev nD) : Vec F S10000x256 .bf16 := fun z =>
  k0_pay5 (iblk m c 4 ⟨(z 0).val / 400, by have : (z 0).val < 10000 := (z 0).isLt; rw [show cfg0.N = 25 from N_0]; omega⟩)
    (iblk m c 7 ⟨(z 0).val / 400, by have : (z 0).val < 10000 := (z 0).isLt; rw [show cfg0.N = 25 from N_0]; omega⟩)
    (Yv m c) (ix2 ⟨(z 0).val % 400, Nat.mod_lt _ (by norm_num)⟩ (z 1))

/-- The column sums after grid point `n`. -/
def Sv (c : Dev nD) : (n : ℕ) → n < cfg0.N → Vec F S1x128 .f32
  | 0, h => k0_pay6 (iblk m c 4 ⟨0, h⟩) (iblk m c 7 ⟨0, h⟩) (Yv m c) k0_pay3
  | n + 1, h => k0_pay6 (iblk m c 4 ⟨n + 1, h⟩) (iblk m c 7 ⟨n + 1, h⟩) (Yv m c) (Sv c n (Nat.lt_of_succ_lt h))

/-- The output of the launch. -/
def Ov (c : Dev nD) : Vec F S1x20000 .f32 := scores (Sv m c 24 t24.isLt) (iblk m c 5 t24) (iblk m c 6 t24) (Hv m c)

/-- The hidden layer's buffer holds the rows of the first `n` blocks. -/
def Filled (c : Dev nD) (n : ℕ) (h : Vec F S10000x256 .bf16) : Prop := ∀ z : S10000x256.Idx, (z 0).val < 400 * n → h z = Hv m c z

/-- A grid point's coordinate is its number. -/
theorem coord_val (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  omega

/-- A grid point adds its block's rows to the ones already there. -/
theorem filled_step (c : Dev nD) (t : Fin cfg0.N) (h : Vec F S10000x256 .bf16) (hf : Filled m c t.val h) :
    Filled m c (t.val + 1) (hStep (grid0.coords t) (iblk m c 4 t) (iblk m c 7 t) (Yv m c) h) := by
  intro z hz
  by_cases hlt : (z 0).val < 400 * t.val
  · rw [hStep_out _ _ _ _ _ _ (by rw [coord_val]; exact hlt)]
    exact hf z hlt
  · have hq : (z 0).val / 400 = t.val := by omega
    rw [hStep_in _ _ _ _ _ _ ⟨(z 0).val % 400, Nat.mod_lt _ (by norm_num)⟩ (by rw [coord_val]; change _ = 400 * t.val + (z 0).val % 400; omega)]
    unfold Hv
    have e : (⟨(z 0).val / 400, by rw [hq]; exact t.isLt⟩ : Fin cfg0.N) = t := Fin.ext hq
    rw [e]

/-- After the last grid point the buffer is the hidden layer. -/
theorem filled_all (c : Dev nD) (h : Vec F S10000x256 .bf16) (hf : Filled m c 25 h) : h = Hv m c :=
  funext fun z => hf z (by have : (z 0).val < 10000 := (z 0).isLt; omega)

/-- Before the first grid point nothing is asked of the buffer. -/
theorem filled_zero (c : Dev nD) (h : Vec F S10000x256 .bf16) : Filled m c 0 h := fun z hz => absurd hz (by omega)

/-! ## The invariant between grid points -/

/-- Before the first grid point the scratch buffers hold anything; after grid point `n`, the transformed features, the hidden layer's
    first `n + 1` blocks of rows, the column sums of those rows. -/
def Inv (c : Dev nD) : (n : ℕ) → n ≤ cfg0.N → sProp 𝕄
  | 0, _ => Pipeline.ΦA spec0 c
  | n + 1, hn => iprop(iprop(owns (c : Thread nD τ) scM0_0 fullShare (Yv m c)
      ∗ (∃ h, ⌜Filled m c (n + 1) h⌝ ∗ owns (c : Thread nD τ) scM0_1 fullShare h)
      ∗ owns (c : Thread nD τ) scM0_2 fullShare (Sv m c n hn)) ∗ (∃ r, prngReg c r))

/-- The invariant before the first grid point. -/
theorem Inv_zero (c : Dev nD) (n : ℕ) (h : n ≤ cfg0.N) (hz : n = 0) : Inv m c n h = Pipeline.ΦA spec0 c := by
  subst hz; rfl

/-- The invariant after a grid point. -/
theorem Inv_succ (c : Dev nD) (n : ℕ) (hn : n < cfg0.N) :
    Inv m c (n + 1) hn = iprop(iprop(owns (c : Thread nD τ) scM0_0 fullShare (Yv m c)
      ∗ (∃ h, ⌜Filled m c (n + 1) h⌝ ∗ owns (c : Thread nD τ) scM0_1 fullShare h)
      ∗ owns (c : Thread nD τ) scM0_2 fullShare (Sv m c n hn)) ∗ (∃ r, prngReg c r)) := rfl

/-- The proof data of the launch: each input's buffer holds its block, the output's the scores; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Ov m c
  Φ t := Inv m c t.val (Nat.le_of_lt_succ t.isLt)
  q _ := fullShare
  owed _ := 0

/-- The arrays are those of the memory that the launch starts from. -/
theorem A_eq (c : Dev nD) (w : Fin cfg0.W) : (dats m 0 c).A w = V m c (Pipeline.arrRef spec0 w) := by
  dsimp only [dats]

/-- The proof data's invariant at a grid point is the one above. -/
theorem Inv_castSucc (c : Dev nD) (t : Fin cfg0.N) : (dats m 0 c).Φ t.castSucc = Inv m c t.val (Nat.le_of_lt t.isLt) := by
  dsimp only [dats]; exact Pipeline.Dat.Φ_castSucc (Inv m c) t

/-! After the body each input's buffer holds its block, the output's the scores; -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = Ov m c := by dsimp only [dats]

/-! before the body each input's buffer holds its block; -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! the body leaves each input's buffer as it was. -/

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-- At the last grid point the output's buffer must hold the scores, -/
theorem leaves0_8_last (c : Dev nD) (t : Fin cfg0.N) (h1 : t.val % 25 = 24) :
    (dats m 0 c).leavesExact 8 t = owns (c : Thread nD τ) (ms0_8 t) fullShare (Ov m c) := by
  have hi : cfg0.idle 8 (grid0.coords t) = false := by
    change (!(k0_cond2 (grid0.coords t) == 1#1)) = false
    rw [(hcond0_1 t).mpr h1]; rfl
  unfold Dat.leavesExact; rw [hi, after0_8]

/-- at any other it is handed back as it was found. -/
theorem leaves0_8_idle (c : Dev nD) (t : Fin cfg0.N) (h1 : ¬t.val % 25 = 24) :
    (dats m 0 c).leavesExact 8 t = iprop(∃ d, owns (c : Thread nD τ) (ms0_8 t) fullShare ((dats m 0 c).before 8 t d)) := by
  have hi : cfg0.idle 8 (grid0.coords t) = true := by
    change (!(k0_cond2 (grid0.coords t) == 1#1)) = true
    have hne : k0_cond2 (grid0.coords t) ≠ 1#1 := fun h => h1 ((hcond0_1 t).mp h)
    simp [hne]
  have hf : (cfg0.win 8).flush t = false := by
    cases hfl : (cfg0.win 8).flush t with
    | false => rfl
    | true => exact absurd ((flush0_8 t).mp hfl) h1
  exact Dat.leavesExact_idle (dats m 0 c) 8 t hi hf

/-! ## The body at every grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The column sums after a grid point that is not the first. -/
theorem Sv_step (c : Dev nD) (t : Fin cfg0.N) (n : ℕ) (h : t.val = n + 1) :
    Sv m c t.val t.isLt = k0_pay6 (iblk m c 4 t) (iblk m c 7 t) (Yv m c) (Sv m c n (by have := t.isLt; omega)) := by
  obtain ⟨k, hk⟩ := t
  dsimp only at h
  subst h
  rfl

set_option maxHeartbeats 1600000 in
/-- The first grid point. -/
theorem sound_first (c : Dev nD) (t : Fin cfg0.N) (hz : t.val = 0) :
    bodyPre m c t ⊢ wp frame (wpE (defs₀ (F := F)) Variants.none c none) Set.univ (bodyAt0 t) (fun _ => bodyPost m c t) := by
    obtain rfl : t = t0 := Fin.ext hz
    unfold bodyPre bodyPost bodyAt0
    simp only [before0_0, before0_1, before0_2, before0_3, before0_4, before0_5, before0_6, before0_7]
    rw [show (dats m 0 c).owesAt () t0.succ = (dats m 0 c).owesAt () t0.castSucc from rfl]
    rw [show (dats m 0 c).Φ t0.succ = Inv m c (t0.val + 1) t0.isLt from rfl, Inv_succ]
    rw [leaves0_0, leaves0_1, leaves0_2, leaves0_3, leaves0_4, leaves0_5, leaves0_6, leaves0_7, leaves0_8_idle m c t0 (by decide)]
    rw [Inv_castSucc m c t0, Inv_zero m c _ _ rfl, PhiA0_eq]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA _ _ _ _ _ _ _ _ _ _ _ _ _ _ _ _ _ _ _ _ _ _ _ _ c (grid0.coords t0) ((hcond0_0 t0).mpr (by decide)) (fun h => absurd ((hcond0_1 t0).mp h) (by decide)) (iblk m c 0 t0) (iblk m c 1 t0) (iblk m c 2 t0) (iblk m c 3 t0) (iblk m c 4 t0) (iblk m c 5 t0) (iblk m c 6 t0) (iblk m c 7 t0) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]
        · iexists _; isplitr
          · ipureintro; exact filled_step m c t0 s1 (filled_zero m c s1)
          · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The invariant before a grid point that is not the first. -/
theorem Inv_pos (c : Dev nD) (t : Fin cfg0.N) (n : ℕ) (h : t.val = n + 1) :
    Inv m c t.val (Nat.le_of_lt t.isLt) = iprop(iprop(owns (c : Thread nD τ) scM0_0 fullShare (Yv m c)
      ∗ (∃ g, ⌜Filled m c t.val g⌝ ∗ owns (c : Thread nD τ) scM0_1 fullShare g)
      ∗ owns (c : Thread nD τ) scM0_2 fullShare (Sv m c n (by have := t.isLt; omega))) ∗ (∃ r, prngReg c r)) := by
  obtain ⟨k, hk⟩ := t
  dsimp only at h
  subst h
  rfl

set_option maxHeartbeats 1600000 in
/-- A grid point that is neither the first nor the last. -/
theorem sound_mid (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
    have hN : t.val < 25 := lt_of_lt_of_eq t.isLt (show cfg0.N = 25 from N_0)
    obtain ⟨n, hn⟩ : ∃ n, t.val = n + 1 := ⟨t.val - 1, by omega⟩
    unfold bodyPre bodyPost bodyAt0
    simp only [before0_0, before0_1, before0_2, before0_3, before0_4, before0_5, before0_6, before0_7]
    rw [show (dats m 0 c).owesAt () t.succ = (dats m 0 c).owesAt () t.castSucc from rfl]
    rw [show (dats m 0 c).Φ t.succ = Inv m c (t.val + 1) t.isLt from rfl, Inv_succ, Sv_step m c t n hn]
    rw [leaves0_0, leaves0_1, leaves0_2, leaves0_3, leaves0_4, leaves0_5, leaves0_6, leaves0_7, leaves0_8_idle m c t h1]
    rw [Inv_castSucc m c t, Inv_pos m c t n hn]
    iintro ⟨⟨⟨HS0, ⟨%s1, %hs1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB _ _ _ _ _ _ _ _ _ _ _ _ _ _ _ _ _ _ _ _ _ _ _ _ c (grid0.coords t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]
        · iexists _; isplitr
          · ipureintro; exact filled_step m c t s1 hs1
          · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

set_option maxHeartbeats 1600000 in
/-- The last grid point. -/
theorem sound_last (c : Dev nD) (t : Fin cfg0.N) (h0 : ¬t.val % 25 = 0) (h1 : t.val % 25 = 24) :
    bodyPre m c t ⊢ wp frame (wpE (defs₀ (F := F)) Variants.none c none) Set.univ (bodyAt0 t) (fun _ => bodyPost m c t) := by
    have hN : t.val < 25 := lt_of_lt_of_eq t.isLt (show cfg0.N = 25 from N_0)
    obtain ⟨n, hn⟩ : ∃ n, t.val = n + 1 := ⟨t.val - 1, by omega⟩
    unfold bodyPre bodyPost bodyAt0
    simp only [before0_0, before0_1, before0_2, before0_3, before0_4, before0_5, before0_6, before0_7]
    rw [show (dats m 0 c).owesAt () t.succ = (dats m 0 c).owesAt () t.castSucc from rfl]
    rw [show (dats m 0 c).Φ t.succ = Inv m c (t.val + 1) t.isLt from rfl, Inv_succ, Sv_step m c t n hn]
    rw [leaves0_0, leaves0_1, leaves0_2, leaves0_3, leaves0_4, leaves0_5, leaves0_6, leaves0_7, leaves0_8_last m c t h1]
    rw [Inv_castSucc m c t, Inv_pos m c t n hn]
    iintro ⟨⟨⟨HS0, ⟨%s1, %hs1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC _ _ _ _ _ _ _ _ _ _ _ _ _ _ _ _ _ _ _ _ _ _ _ _ c (grid0.coords t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]
        · iexists _; isplitr
          · ipureintro; exact filled_step m c t s1 hs1
          · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [outOf_eq, ← Sv_step m c t n hn, filled_all m c (hStep (grid0.coords t) (iblk m c 4 t) (iblk m c 7 t) (Yv m c) s1)
      (by have := filled_step m c t s1 hs1; rw [show t.val + 1 = 25 by omega] at this; exact this)]
    obtain rfl : t = t24 := Fin.ext (show t.val = 24 by omega)
    iexact H8

/-- The body at any grid point. -/
theorem sound_body (c : Dev nD) (t : Fin cfg0.N) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  by_cases h0 : t.val % 25 = 0
  · exact sound_first m c t (by omega)
  · by_cases h1 : t.val % 25 = 24
    · exact sound_last m c t h0 h1
    · exact sound_mid m c t h0 h1

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The launch's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Inv m c (24 + 1) (le_of_eq (show 25 = cfg0.N from N_0.symm)) from rfl, Inv_succ, PhiA0_eq]
  iintro ⟨⟨HS0, ⟨%s1, %hs1, HS1⟩, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every execution ends with the windows' arrays at the contents the proof data names, every other array as the region found it, and
    every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Gcn

end
-- ==== Proof.KernelFrame.lean ====
/-
  The frame of the kernel as printed. It differs from the idealized kernel in one literal, so it is the idealized kernel
  read with that constant's own word in place of the name.
-/
module

public import proofs.«01_k».proof.Proof.Gen.Kernel
public import proofs.«01_k».proof.Proof.KI.Launch

@[expose] public section

noncomputable section

namespace Cert.Gcn

open Idealize.ShloMosaic Idealize.SL.Sem

/-- The reading of a named constant as the word it was printed from. -/
@[reducible] def wordNamed : Named Bits := ⟨fun _ _ _ b => Scalar.ofBits _ b⟩

/-- The printed kernel's body is the idealized kernel's, its named constant read as its word. -/
theorem body_eq : @Cert.Kernel.cc0__fused_body Bits _ _ = @Cert.KernelIdeal.cc0__fused_body Bits _ wordNamed _ := rfl

/-- And so is its body table. -/
theorem defs₀_eq : Cert.Kernel.defs₀ (F := Bits) = (letI := wordNamed; Cert.KernelIdeal.defs₀ (F := Bits)) := by
  letI := wordNamed
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- And so is its main function. -/
theorem main_eq : Cert.Kernel.main (F := Bits) = (letI := wordNamed; Cert.KernelIdeal.main (F := Bits)) := rfl

/-- And so are all of its functions. -/
theorem defs_eq : Cert.Kernel.defs (F := Bits) = (letI := wordNamed; Cert.KernelIdeal.defs (F := Bits)) :=
  congrArg (Pipeline.defs (Cert.Kernel.pcfgs (F := Bits))) defs₀_eq

open Cert.Kernel in
/-- The printed kernel runs, its arguments end unchanged, and every semaphore counter ends at zero. -/
theorem kernel_frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact @Cert.Gcn.frame Bits _ wordNamed m g

end Cert.Gcn

end
-- ==== Proof.KI.Array.lean ====
/-
  What the launch's arrays hold: the window arrays in terms of the arguments, the blocks the windows read of them, and the
  result array after the run.
-/
module

public import proofs.«01_k».proof.Proof.KI.Launch
public import Idealize.ShloMosaic.Lib.Pointwise

@[expose] public section

set_option maxRecDepth 16384

noncomputable section

namespace Cert.Gcn

open Cert.KernelIdeal Cert.KernelIdeal.Gen
open Idealize.ShloMosaic Idealize.ShloMosaic.TcCoe Idealize.ShloMosaic.Tactic

variable {F : FTy → Type} [FloatOps F] [Named F]

/-! ## The host's reshapes, entry by entry -/

/-- A batch of one graph's features, without the batch axis. -/
theorem cast_feat (x : Vec F S1x10000x128 .f32) (n : Fin 10000) (k : Fin 128) :
    shapeCast S10000x128 x shapeCasts_S1x10000x128_S10000x128 (ix2 n k) = x (ix3 0 n k) := by
  pointwise

/-- A vector as a one-row matrix. -/
theorem cast_row (x : Vec F S128 .f32) (k : Fin 128) : shapeCast S1x128 x shapeCasts_S128_S1x128 (ix2 0 k) = x (ix1 k) := by
  pointwise

/-- A one-element vector as a one-element matrix. -/
theorem cast_one (x : Vec F S1 .f32) : shapeCast S1x1 x shapeCasts_S1_S1x1 (ix2 0 0) = x (ix1 0) := by
  pointwise

/-- A one-slice stack of matrices, as the matrix. -/
theorem cast_wb (x : Vec F S1x128x128 .f32) (i j : Fin 128) :
    shapeCast S128x128 x shapeCasts_S1x128x128_S128x128 (ix2 i j) = x (ix3 0 i j) := by
  pointwise

/-- A transposed matrix. -/
theorem transpose_w (x : Vec F S128x128 .f32) (f k : Fin 128) :
    transpose S128x128 [1, 0] x transposes_S128x128_S128x128_1_0 (ix2 f k) = x (ix2 k f) := by
  pointwise

/-! ## The arrays the host prepares -/

variable (m : (ℓ : Loc nD τ sig) → Buf (Elt F) ℓ) (c : Dev nD)

/-- The first graph's features, without the batch axis. -/
theorem V_v0 (n : Fin 10000) (k : Fin 128): V m c main_v0 (ix2 n k) = m ((c : Thread nD τ).loc main_arg0) (ix3 0 n k) := by
  refine Eq.trans (congrFun ?_ _) (cast_feat _ n k)
  unfold V
  after_results
  rfl

/-- The second graph's features, without the batch axis. -/
theorem V_v1 (n : Fin 10000) (k : Fin 128): V m c main_v1 (ix2 n k) = m ((c : Thread nD τ).loc main_arg1) (ix3 0 n k) := by
  refine Eq.trans (congrFun ?_ _) (cast_feat _ n k)
  unfold V
  after_results
  rfl

/-- The linear layer's weights, transposed. -/
theorem V_v2 (f k : Fin 128): V m c main_v2 (ix2 f k) = m ((c : Thread nD τ).loc main_arg3) (ix2 k f) := by
  refine Eq.trans (congrFun ?_ _) (transpose_w _ f k)
  unfold V
  after_results

/-- The linear layer's bias, as a row. -/
theorem V_v3 (k : Fin 128): V m c main_v3 (ix2 0 k) = m ((c : Thread nD τ).loc main_arg4) (ix1 k) := by
  refine Eq.trans (congrFun ?_ _) (cast_row _ k)
  unfold V
  after_results
  rfl

/-- The activation's slope. -/
theorem V_v4 : V m c main_v4 (ix2 0 0) = m ((c : Thread nD τ).loc main_arg5) (ix1 0) := by
  refine Eq.trans (congrFun ?_ _) (cast_one _)
  unfold V
  after_results
  rfl

/-- The bilinear weights, without the leading axis. -/
theorem V_v5 (i j : Fin 128): V m c main_v5 (ix2 i j) = m ((c : Thread nD τ).loc main_arg6) (ix3 0 i j) := by
  refine Eq.trans (congrFun ?_ _) (cast_wb _ i j)
  unfold V
  after_results
  rfl

/-- The bilinear bias. -/
theorem V_v6 : V m c main_v6 (ix2 0 0) = m ((c : Thread nD τ).loc main_arg7) (ix1 0) := by
  refine Eq.trans (congrFun ?_ _) (cast_one _)
  unfold V
  after_results
  rfl

/-! ## The blocks -/

/-- Window 0's block is its whole array at every grid point. -/
theorem iblk_0 (t : Fin cfg0.N) (z : S10000x128.Idx) : iblk m c 0 t z = V m c main_v0 z := by
  unfold iblk
  rw [View.read_apply, cast_eq]
  refine congrArg (V m c main_v0) (funext fun a => Fin.ext ?_)
  exact Pipeline.Window.rect_emb_val_of_index_zero win0_0 t a (by fin_cases a <;> rfl) z

/-- Window 1's block is its whole array at every grid point. -/
theorem iblk_1 (t : Fin cfg0.N) (z : S10000x128.Idx) : iblk m c 1 t z = V m c main_v1 z := by
  unfold iblk
  rw [View.read_apply, cast_eq]
  refine congrArg (V m c main_v1) (funext fun a => Fin.ext ?_)
  exact Pipeline.Window.rect_emb_val_of_index_zero win0_1 t a (by fin_cases a <;> rfl) z

/-- Window 2's block is its whole array at every grid point. -/
theorem iblk_2 (t : Fin cfg0.N) (z : S128x128.Idx) : iblk m c 2 t z = V m c main_v2 z := by
  unfold iblk
  rw [View.read_apply, cast_eq]
  refine congrArg (V m c main_v2) (funext fun a => Fin.ext ?_)
  exact Pipeline.Window.rect_emb_val_of_index_zero win0_2 t a (by fin_cases a <;> rfl) z

/-- Window 3's block is its whole array at every grid point. -/
theorem iblk_3 (t : Fin cfg0.N) (z : S1x128.Idx) : iblk m c 3 t z = V m c main_v3 z := by
  unfold iblk
  rw [View.read_apply, cast_eq]
  refine congrArg (V m c main_v3) (funext fun a => Fin.ext ?_)
  exact Pipeline.Window.rect_emb_val_of_index_zero win0_3 t a (by fin_cases a <;> rfl) z

/-- Window 4's block is its whole array at every grid point. -/
theorem iblk_4 (t : Fin cfg0.N) (z : S1x1.Idx) : iblk m c 4 t z = V m c main_v4 z := by
  unfold iblk
  rw [View.read_apply, cast_eq]
  refine congrArg (V m c main_v4) (funext fun a => Fin.ext ?_)
  exact Pipeline.Window.rect_emb_val_of_index_zero win0_4 t a (by fin_cases a <;> rfl) z

/-- Window 5's block is its whole array at every grid point. -/
theorem iblk_5 (t : Fin cfg0.N) (z : S128x128.Idx) : iblk m c 5 t z = V m c main_v5 z := by
  unfold iblk
  rw [View.read_apply, cast_eq]
  refine congrArg (V m c main_v5) (funext fun a => Fin.ext ?_)
  exact Pipeline.Window.rect_emb_val_of_index_zero win0_5 t a (by fin_cases a <;> rfl) z

/-- Window 6's block is its whole array at every grid point. -/
theorem iblk_6 (t : Fin cfg0.N) (z : S1x1.Idx) : iblk m c 6 t z = V m c main_v6 z := by
  unfold iblk
  rw [View.read_apply, cast_eq]
  refine congrArg (V m c main_v6) (funext fun a => Fin.ext ?_)
  exact Pipeline.Window.rect_emb_val_of_index_zero win0_6 t a (by fin_cases a <;> rfl) z

/-- Window 0's block, entry by entry. -/
theorem in_0 (t : Fin cfg0.N) (n : Fin 10000) (k : Fin 128): iblk m c 0 t (ix2 n k) = m ((c : Thread nD τ).loc main_arg0) (ix3 0 n k) :=
  (iblk_0 m c t _).trans (V_v0 m c n k)

/-- Window 1's block, entry by entry. -/
theorem in_1 (t : Fin cfg0.N) (n : Fin 10000) (k : Fin 128): iblk m c 1 t (ix2 n k) = m ((c : Thread nD τ).loc main_arg1) (ix3 0 n k) :=
  (iblk_1 m c t _).trans (V_v1 m c n k)

/-- Window 2's block, entry by entry. -/
theorem in_2 (t : Fin cfg0.N) (f k : Fin 128): iblk m c 2 t (ix2 f k) = m ((c : Thread nD τ).loc main_arg3) (ix2 k f) :=
  (iblk_2 m c t _).trans (V_v2 m c f k)

/-- Window 3's block, entry by entry. -/
theorem in_3 (t : Fin cfg0.N) (k : Fin 128): iblk m c 3 t (ix2 0 k) = m ((c : Thread nD τ).loc main_arg4) (ix1 k) :=
  (iblk_3 m c t _).trans (V_v3 m c k)

/-- Window 4's block, entry by entry. -/
theorem in_4 (t : Fin cfg0.N) : iblk m c 4 t (ix2 0 0) = m ((c : Thread nD τ).loc main_arg5) (ix1 0) :=
  (iblk_4 m c t _).trans (V_v4 m c )

/-- Window 5's block, entry by entry. -/
theorem in_5 (t : Fin cfg0.N) (i j : Fin 128): iblk m c 5 t (ix2 i j) = m ((c : Thread nD τ).loc main_arg6) (ix3 0 i j) :=
  (iblk_5 m c t _).trans (V_v5 m c i j)

/-- Window 6's block, entry by entry. -/
theorem in_6 (t : Fin cfg0.N) : iblk m c 6 t (ix2 0 0) = m ((c : Thread nD τ).loc main_arg7) (ix1 0) :=
  (iblk_6 m c t _).trans (V_v6 m c )

/-- A row of an adjacency block is a row of the adjacency. -/
theorem row_lt (t : Fin cfg0.N) (r : Fin 400) : 400 * t.val + r.val < 10000 := by
  have ht : t.val < 25 := Nat.lt_of_lt_of_eq t.isLt N_0
  omega

/-- The adjacency's block at grid point `t` starts at row `400 * t`. -/
theorem iblk_7 (t : Fin cfg0.N) (r : Fin 400) (q : Fin 10000) :
    iblk m c 7 t (ix2 r q) = m ((c : Thread nD τ).loc main_arg2) (ix2 ⟨400 * t.val + r.val, row_lt t r⟩ q) := by
  have ht : t.val < 25 := Nat.lt_of_lt_of_eq t.isLt N_0
  have e0 : win0_7.index t 0 = t.val := by
    show (BitVec.ofNat 32 (grid0.coords t 0).val).toNat = t.val
    rw [coord_val, BitVec.toNat_ofNat]
    omega
  have e1 : win0_7.index t 1 = 0 := rfl
  rw [← V_main_arg2 m c]
  unfold iblk
  rw [View.read_apply, cast_eq]
  refine congrArg (V m c main_arg2) (funext fun a => Fin.ext ?_)
  refine (Pipeline.Window.rect_emb_val win0_7 t (ix2 r q) a).trans ?_
  match a with
  | ⟨0, _⟩ => show win0_7.index t 0 * 400 + r.val = 400 * t.val + r.val; rw [e0]; omega
  | ⟨1, _⟩ => show win0_7.index t 1 * 10000 + q.val = q.val; rw [e1]; omega

/-- The result's one block, read of an array, is the array. -/
theorem blk_8 (t : Fin cfg0.N) (f : Buf (Elt F) ((c : Thread nD τ).loc main_v7)) : (win0_8.blk t).view.read (Elt F) f = f :=
  Memref.read_access_unit_zero (Elt F) main_v7
    (show (fun a => (win0_8.index t) a * main_v7.ty.shape.size a) = fun _ => 0 from
      funext fun a => by fin_cases a <;> exact Nat.zero_mul _) (fun a => by
      match a with
      | ⟨0, _⟩ => show 0 * 1 + 1 ≤ 1; omega
      | ⟨1, _⟩ => show 0 * 20000 + 20000 ≤ 20000; omega) f

/-- The result array after the run. -/
theorem arr_8 : (dats m 0 c).arrAt 8 cfg0.N = Ov m c := by
  have h := (dats m 0 c).read_blk_arrAt 8 (Ov m c) (fun t _ => by
    show (cfg0.win 8).cut _ ((dats m 0 c).after 8 t) = _
    rw [after0_8]
    exact (blk_8 c t (Ov m c)).symm) t24 ((flush0_8 t24).mpr rfl)
  exact (blk_8 c t24 _).symm.trans (h.trans (blk_8 c t24 _))

end Cert.Gcn

end
-- ==== Proof.KI.RunValue.lean ====
/-
  The kernel's run with its value: the result array ends at the scores and the arguments end unchanged.
-/
module

public import proofs.«01_k».proof.Proof.KI.Array

@[expose] public section

noncomputable section

namespace Cert.Gcn

open Cert.KernelIdeal Cert.KernelIdeal.Gen
open Idealize.ShloMosaic Idealize.ShloMosaic.TcCoe Idealize.SL.Sem

variable {F : FTy → Type} [FloatOps F] [Named F] (m : (ℓ : Loc nD τ sig) → Buf (Elt F) ℓ) (ρ : Dev nD → PrngReg)

/-- Every execution ends with the result array at the scores and the argument arrays as they were. -/
theorem run_value : θ_run defs (onTc (τ := τ) (main (F := F))) ⟨m, fun _ => 0, ρ⟩ (fun r => ∀ c : Dev nD,
    r.2.mem ((c.tc : Thread nD τ).loc main_v7) = Ov m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨((h.1.1 c).1 8).trans (arr_8 m c), h.2.1 c⟩) (θ_run_and (run_main m ρ) (frame m ρ))

end Cert.Gcn

end
-- ==== Proof.Spec.lean ====
/-
  The discriminator's mathematics, entry by entry over the extended reals: the linear layer, the aggregation with its
  activation, the readout, the bilinear score in the two orders of summation, and their equality on finite values.
-/
module

public import Idealize.ShloMosaic.PureOps.Ideal
public import Idealize.ShloMosaic.PureOps.Ideal.Laws

@[expose] public section

noncomputable section

namespace Cert.Gcn

open Idealize.ShloMosaic

/-- The linear layer: node `n`'s transformed feature `k`. -/
def lin (x : Fin 10000 → Fin 128 → EReal) (w : Fin 128 → Fin 128 → EReal) (b : Fin 128 → EReal) (n : Fin 10000) (k : Fin 128) : EReal :=
  ∑ f : Fin 128, x n f * w k f + b k

/-- The activation with slope `p` on the negative side. -/
def prelu (p a : EReal) : EReal := if 0 ≤ a then a else p * a

/-- The hidden layer: the activation of the features aggregated over the graph. -/
def hid (p : EReal) (adj : Fin 10000 → Fin 10000 → EReal) (y : Fin 10000 → Fin 128 → EReal) (n : Fin 10000) (k : Fin 128) : EReal :=
  prelu p (∑ q : Fin 10000, adj n q * y q k)

/-- The readout: the sigmoid of a column's mean over the nodes. -/
def readout (h : Fin 10000 → Fin 128 → EReal) (k : Fin 128) : EReal :=
  Ideal.logistic ((∑ n : Fin 10000, h n k) * ((10000⁻¹ : ℝ) : EReal))

/-- The bilinear score, the readout multiplied into the weights first. -/
def scoreK (s : Fin 128 → EReal) (wb : Fin 128 → Fin 128 → EReal) (bias : EReal) (h : Fin 10000 → Fin 128 → EReal) (n : Fin 10000) : EReal :=
  ∑ i : Fin 128, (∑ j : Fin 128, s j * wb i j) * h n i + bias

/-- The bilinear score, the hidden layer multiplied into the weights first. -/
def scoreR (s : Fin 128 → EReal) (wb : Fin 128 → Fin 128 → EReal) (bias : EReal) (h : Fin 10000 → Fin 128 → EReal) (n : Fin 10000) : EReal :=
  ∑ j : Fin 128, s j * (∑ i : Fin 128, wb i j * h n i) + bias

/-- The result of either order of summation: the first graph's scores, then the second's, against the first graph's readout. -/
def both (score : (Fin 128 → EReal) → (Fin 128 → Fin 128 → EReal) → EReal → (Fin 10000 → Fin 128 → EReal) → Fin 10000 → EReal)
    (x1 x2 : Fin 10000 → Fin 128 → EReal) (adj : Fin 10000 → Fin 10000 → EReal) (w : Fin 128 → Fin 128 → EReal) (b : Fin 128 → EReal) (p : EReal)
    (wb : Fin 128 → Fin 128 → EReal) (bias : EReal) (n : Fin 20000) : EReal :=
  if hn : n.val < 10000 then score (readout (hid p adj (lin x1 w b))) wb bias (hid p adj (lin x1 w b)) ⟨n.val, hn⟩
  else score (readout (hid p adj (lin x1 w b))) wb bias (hid p adj (lin x2 w b)) ⟨n.val - 10000, by have := n.isLt; omega⟩

/-! ## Finite values -/

/-- A value that is a real number. -/
def IsReal (x : EReal) : Prop := ∃ r : ℝ, x = (r : EReal)

/-- A sum of two real numbers is one. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is one. -/
theorem IsReal.sum {ι : Type*} (s : Finset ι) (f : ι → EReal) (hf : ∀ i, IsReal (f i)) : IsReal (∑ i ∈ s, f i) := by
  choose g hg using hf
  exact ⟨∑ i ∈ s, g i, by simp only [hg]; exact sum_coe s g⟩

/-- The linear layer of finite arguments is finite. -/
theorem lin_real {x : Fin 10000 → Fin 128 → EReal} {w : Fin 128 → Fin 128 → EReal} {b : Fin 128 → EReal} (hx : ∀ n f, IsReal (x n f))
    (hw : ∀ k f, IsReal (w k f)) (hb : ∀ k, IsReal (b k)) (n : Fin 10000) (k : Fin 128) : IsReal (lin x w b n k) :=
  (IsReal.sum _ _ fun f => (hx n f).mul (hw k f)).add (hb k)

/-- The hidden layer of finite features is finite. -/
theorem hid_real {p : EReal} {adj : Fin 10000 → Fin 10000 → EReal} {y : Fin 10000 → Fin 128 → EReal} (hp : IsReal p) (ha : ∀ n q, IsReal (adj n q))
    (hy : ∀ n k, IsReal (y n k)) (n : Fin 10000) (k : Fin 128) : IsReal (hid p adj y n k) := by
  have h : IsReal (∑ q : Fin 10000, adj n q * y q k) := IsReal.sum _ _ fun q => (ha n q).mul (hy q k)
  unfold hid prelu
  split
  · exact h
  · exact hp.mul h

/-- The readout of a finite hidden layer is finite. -/
theorem readout_real {h : Fin 10000 → Fin 128 → EReal} (hh : ∀ n k, IsReal (h n k)) (k : Fin 128) : IsReal (readout h k) := by
  obtain ⟨r, hr⟩ : IsReal ((∑ n : Fin 10000, h n k) * ((10000⁻¹ : ℝ) : EReal)) := (IsReal.sum _ _ fun n => hh n k).mul ⟨_, rfl⟩
  unfold readout
  rw [hr]
  exact ⟨_, Ideal.logistic_coe r⟩

/-- The two orders of summation of the bilinear score agree on finite values. -/
theorem score_eq {s : Fin 128 → EReal} {wb : Fin 128 → Fin 128 → EReal} {h : Fin 10000 → Fin 128 → EReal} (bias : EReal) (hs : ∀ j, IsReal (s j))
    (hw : ∀ i j, IsReal (wb i j)) (hh : ∀ n k, IsReal (h n k)) (n : Fin 10000) : scoreK s wb bias h n = scoreR s wb bias h n := by
  choose s' hs' using hs
  choose w' hw' using hw
  choose h' hh' using hh
  unfold scoreK scoreR
  simp only [hs', hw', hh', ← EReal.coe_mul, sum_coe]
  refine congrArg (fun z : ℝ => (z : EReal) + bias) ?_
  simp only [Finset.sum_mul, Finset.mul_sum]
  rw [Finset.sum_comm]
  exact Finset.sum_congr rfl fun j _ => Finset.sum_congr rfl fun i _ => by ring

/-- The two results agree on finite values. -/
theorem both_eq {x1 x2 : Fin 10000 → Fin 128 → EReal} {adj : Fin 10000 → Fin 10000 → EReal} {w : Fin 128 → Fin 128 → EReal} {b : Fin 128 → EReal} {p : EReal}
    {wb : Fin 128 → Fin 128 → EReal} (bias : EReal) (h1 : ∀ n f, IsReal (x1 n f)) (h2 : ∀ n f, IsReal (x2 n f)) (ha : ∀ n q, IsReal (adj n q))
    (hw : ∀ k f, IsReal (w k f)) (hb : ∀ k, IsReal (b k)) (hp : IsReal p) (hwb : ∀ i j, IsReal (wb i j)) (n : Fin 20000) :
    both scoreK x1 x2 adj w b p wb bias n = both scoreR x1 x2 adj w b p wb bias n := by
  have hh1 : ∀ n k, IsReal (hid p adj (lin x1 w b) n k) := hid_real hp ha (lin_real h1 hw hb)
  have hh2 : ∀ n k, IsReal (hid p adj (lin x2 w b) n k) := hid_real hp ha (lin_real h2 hw hb)
  unfold both
  split
  · exact score_eq bias (readout_real hh1) hwb hh1 _
  · exact score_eq bias (readout_real hh1) hwb hh2 _

end Cert.Gcn

end
-- ==== Proof.KI.Block.lean ====
/-
  What one block of the kernel computes over the extended reals, entry by entry.
-/
module

public import proofs.«01_k».proof.Proof.KI.Values
public import proofs.«01_k».proof.Proof.Spec

@[expose] public section

set_option maxRecDepth 16384

noncomputable section

namespace Cert.Gcn

open Cert.KernelIdeal Cert.KernelIdeal.Gen
open Idealize.ShloMosaic Idealize.ShloMosaic.TcCoe Idealize.ShloMosaic.Tactic

/-- The constant the kernel names is the reciprocal of the number of nodes. -/
theorem inv_n_value : (Named.named κ "inv_n" 0x38D1B717#32 : Ideal .f32) = ((10000⁻¹ : ℝ) : EReal) :=
  IdealRules.named_const.ideal_named_scalar _ _ _ _ rfl

/-- The first graph's transformed features. -/
theorem pay1_at (x : Vec Ideal S10000x128 .f32) (w : Vec Ideal S128x128 .f32) (b : Vec Ideal S1x128 .f32) (r : Fin 10000) (k : Fin 128) :
    k0_pay1 (F := Ideal) x w b (ix2 r k) = ∑ f : Fin 128, x (ix2 r f) * w (ix2 f k) + b (ix2 0 k) := by
  pointwise [k0_pay1]

/-- The second graph's transformed features. -/
theorem pay2_at (x : Vec Ideal S10000x128 .f32) (w : Vec Ideal S128x128 .f32) (b : Vec Ideal S1x128 .f32) (r : Fin 10000) (k : Fin 128) :
    k0_pay2 (F := Ideal) x w b (ix2 r k) = ∑ f : Fin 128, x (ix2 r f) * w (ix2 f k) + b (ix2 0 k) := by
  pointwise [k0_pay2]

/-- The column sums start from zero. -/
theorem pay3_at (k : Fin 128) : k0_pay3 (F := Ideal) (ix2 0 k) = 0 := by
  pointwise [k0_pay3]

/-- A block's rows of the hidden layer. -/
theorem pay4_at (p : Vec Ideal S1x1 .f32) (a : Vec Ideal S400x10000 .f32) (y : Vec Ideal S10000x256 .bf16) (r : Fin 400) (k : Fin 256) :
    k0_pay4 (F := Ideal) p a y (ix2 r k) = prelu (p (ix2 0 0)) (∑ q : Fin 10000, a (ix2 r q) * y (ix2 q k)) := by
  pointwise [k0_pay4]
  rfl

/-- The same rows, as they are stored. -/
theorem pay5_at (p : Vec Ideal S1x1 .f32) (a : Vec Ideal S400x10000 .f32) (y : Vec Ideal S10000x256 .bf16) (r : Fin 400) (k : Fin 256) :
    k0_pay5 (F := Ideal) p a y (ix2 r k) = prelu (p (ix2 0 0)) (∑ q : Fin 10000, a (ix2 r q) * y (ix2 q k)) := by
  rw [← pay4_at]; pointwise [k0_pay5]

/-- The column sums with one more block's rows. -/
theorem pay6_at (p : Vec Ideal S1x1 .f32) (a : Vec Ideal S400x10000 .f32) (y : Vec Ideal S10000x256 .bf16) (s : Vec Ideal S1x128 .f32) (k : Fin 128) :
    k0_pay6 (F := Ideal) p a y s (ix2 0 k) = s (ix2 0 k) + ∑ r : Fin 400, k0_pay4 (F := Ideal) p a y (ix2 r ⟨k.val, by have := k.isLt; omega⟩) := by
  pointwise [k0_pay6]

/-- The first graph's scores. -/
theorem pay9_at (s : Vec Ideal S1x128 .f32) (wb : Vec Ideal S128x128 .f32) (b : Vec Ideal S1x1 .f32) (h : Vec Ideal S10000x256 .bf16) (n : Fin 10000) :
    k0_pay9 (F := Ideal) s wb b h (ix2 0 n) = ∑ i : Fin 128, (∑ j : Fin 128, Ideal.logistic (s (ix2 0 j) * ((10000⁻¹ : ℝ) : EReal)) * wb (ix2 i j)) * h (ix2 n ⟨i.val, by have := i.isLt; omega⟩) + b (ix2 0 0) := by
  pointwise [k0_pay9, k0_pay8, k0_pay7]
  rw [inv_n_value]
  simp only [zero_mul, Finset.sum_const_zero, add_zero]

/-- The second graph's scores. -/
theorem pay10_at (s : Vec Ideal S1x128 .f32) (wb : Vec Ideal S128x128 .f32) (b : Vec Ideal S1x1 .f32) (h : Vec Ideal S10000x256 .bf16) (n : Fin 10000) :
    k0_pay10 (F := Ideal) s wb b h (ix2 0 n) = ∑ i : Fin 128, (∑ j : Fin 128, Ideal.logistic (s (ix2 0 j) * ((10000⁻¹ : ℝ) : EReal)) * wb (ix2 i j)) * h (ix2 n ⟨128 + i.val, by have := i.isLt; omega⟩) + b (ix2 0 0) := by
  pointwise [k0_pay10, k0_pay8, k0_pay7]
  rw [inv_n_value]
  simp only [zero_mul, Finset.sum_const_zero, zero_add]

end Cert.Gcn

end
-- ==== Proof.KI.Result.lean ====
/-
  What the kernel's launch leaves in its result array over the extended reals, in terms of the arguments.
-/
module

public import proofs.«01_k».proof.Proof.KI.Array
public import proofs.«01_k».proof.Proof.KI.Block

@[expose] public section

set_option maxRecDepth 16384

noncomputable section

namespace Cert.Gcn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The arguments as functions of their coordinates -/

/-- The first graph's features. -/
def aX1 (n : Fin 10000) (f : Fin 128) : EReal := m ((c : Thread nD τ).loc main_arg0) (ix3 0 n f)
/-- The second graph's features. -/
def aX2 (n : Fin 10000) (f : Fin 128) : EReal := m ((c : Thread nD τ).loc main_arg1) (ix3 0 n f)
/-- The adjacency. -/
def aAdj (n q : Fin 10000) : EReal := m ((c : Thread nD τ).loc main_arg2) (ix2 n q)
/-- The linear layer's weights. -/
def aW (k f : Fin 128) : EReal := m ((c : Thread nD τ).loc main_arg3) (ix2 k f)
/-- The linear layer's bias. -/
def aB (k : Fin 128) : EReal := m ((c : Thread nD τ).loc main_arg4) (ix1 k)
/-- The activation's slope. -/
def aP : EReal := m ((c : Thread nD τ).loc main_arg5) (ix1 0)
/-- The bilinear weights. -/
def aWb (i j : Fin 128) : EReal := m ((c : Thread nD τ).loc main_arg6) (ix3 0 i j)
/-- The bilinear bias. -/
def aBias : EReal := m ((c : Thread nD τ).loc main_arg7) (ix1 0)

/-- A column of the first half. -/
abbrev lo (k : Fin 128) : Fin 256 := ⟨k.val, by have := k.isLt; omega⟩
/-- A column of the second half. -/
abbrev hi (k : Fin 128) : Fin 256 := ⟨128 + k.val, by have := k.isLt; omega⟩

/-! ## The transformed features -/

/-- The first half holds the first graph's linear layer. -/
theorem Yv_lo (n : Fin 10000) (k : Fin 128) : Yv m c (ix2 n (lo k)) = lin (aX1 m c) (aW m c) (aB m c) n k := by
  have e : Yv m c (ix2 n (lo k)) = k0_pay1 (iblk m c 0 t0) (iblk m c 2 t0) (iblk m c 3 t0) (ix2 n k) := by
    unfold Yv yAll
    rw [dif_pos (show (ix2 n (lo k) 1).val < 128 from k.isLt)]
    rfl
  rw [e, pay1_at]
  simp only [in_0, in_2, in_3]
  rfl

/-- The second half holds the second graph's. -/
theorem Yv_hi (n : Fin 10000) (k : Fin 128) : Yv m c (ix2 n (hi k)) = lin (aX2 m c) (aW m c) (aB m c) n k := by
  have e : Yv m c (ix2 n (hi k)) = k0_pay2 (iblk m c 1 t0) (iblk m c 2 t0) (iblk m c 3 t0) (ix2 n k) := by
    unfold Yv yAll
    rw [dif_neg (show ¬(ix2 n (hi k) 1).val < 128 from Nat.not_lt.mpr (Nat.le_add_right 128 k.val))]
    exact congrArg (fun j => k0_pay2 (iblk m c 1 t0) (iblk m c 2 t0) (iblk m c 3 t0) (ix2 n j)) (Fin.ext (Nat.add_sub_cancel_left 128 k.val))
  rw [e, pay2_at]
  simp only [in_1, in_2, in_3]
  rfl

/-! ## The hidden layer -/

/-- An entry of the hidden layer's buffer is the activation of a row of the adjacency times a column of the features. -/
theorem Hv_at (n : Fin 10000) (k : Fin 256) :
    Hv m c (ix2 n k) = prelu (aP m c) (∑ q : Fin 10000, aAdj m c n q * Yv m c (ix2 q k)) := by
  have hn := n.isLt
  have e : Hv m c (ix2 n k) = k0_pay5 (iblk m c 4 ⟨n.val / 400, by rw [show cfg0.N = 25 from N_0]; omega⟩)
      (iblk m c 7 ⟨n.val / 400, by rw [show cfg0.N = 25 from N_0]; omega⟩) (Yv m c) (ix2 ⟨n.val % 400, Nat.mod_lt _ (by norm_num)⟩ k) := rfl
  have hr : ∀ h, (⟨400 * (n.val / 400) + n.val % 400, h⟩ : Fin 10000) = n := fun _ => Fin.ext (Nat.div_add_mod n.val 400)
  rw [e, pay5_at]
  simp only [in_4, iblk_7, hr]
  rfl

/-- The first half is the first graph's hidden layer. -/
theorem Hv_lo (n : Fin 10000) (k : Fin 128) : Hv m c (ix2 n (lo k)) = hid (aP m c) (aAdj m c) (lin (aX1 m c) (aW m c) (aB m c)) n k := by
  rw [Hv_at]; simp only [Yv_lo]; rfl

/-- The second half is the second graph's. -/
theorem Hv_hi (n : Fin 10000) (k : Fin 128) : Hv m c (ix2 n (hi k)) = hid (aP m c) (aAdj m c) (lin (aX2 m c) (aW m c) (aB m c)) n k := by
  rw [Hv_at]; simp only [Yv_hi]; rfl

/-- A block's row, computed for the column sums, is the hidden layer's. -/
theorem row_at (t : Fin cfg0.N) (r : Fin 400) (k : Fin 256) :
    k0_pay4 (F := Ideal) (iblk m c 4 t) (iblk m c 7 t) (Yv m c) (ix2 r k) = Hv m c (ix2 ⟨400 * t.val + r.val, row_lt t r⟩ k) := by
  rw [pay4_at, Hv_at]
  simp only [in_4, iblk_7]
  rfl

/-! ## The column sums -/

/-- Column `k` of the first graph's hidden layer, over all numbers. -/
def col (k : Fin 128) (i : ℕ) : EReal := if h : i < 10000 then Hv m c (ix2 ⟨i, h⟩ (lo k)) else 0

/-- A block's rows, summed, are its stretch of the column. -/
theorem rows_sum (t : Fin cfg0.N) (k : Fin 128) :
    ∑ r : Fin 400, k0_pay4 (F := Ideal) (iblk m c 4 t) (iblk m c 7 t) (Yv m c) (ix2 r (lo k)) = ∑ i ∈ Finset.range 400, col m c k (400 * t.val + i) := by
  rw [Finset.sum_range]
  refine Finset.sum_congr rfl fun r _ => ?_
  rw [row_at, col, dif_pos (row_lt t r)]

/-- After grid point `n` the column sums run over the rows of the blocks up to it. -/
theorem Sv_at (n : ℕ) (h : n < cfg0.N) (k : Fin 128) : Sv m c n h (ix2 0 k) = ∑ i ∈ Finset.range (400 * (n + 1)), col m c k i := by
  induction n with
  | zero =>
    have e : Sv m c 0 h = k0_pay6 (iblk m c 4 ⟨0, h⟩) (iblk m c 7 ⟨0, h⟩) (Yv m c) (k0_pay3 (F := Ideal)) := rfl
    rw [e, pay6_at, pay3_at, rows_sum, zero_add]
    exact Finset.sum_congr rfl fun i _ => congrArg (col m c k) (by show 400 * 0 + i = i; omega)
  | succ n ih =>
    have e : Sv m c (n + 1) h = k0_pay6 (iblk m c 4 ⟨n + 1, h⟩) (iblk m c 7 ⟨n + 1, h⟩) (Yv m c) (Sv m c n (Nat.lt_of_succ_lt h)) := rfl
    rw [e, pay6_at, rows_sum, ih, show 400 * (n + 1 + 1) = 400 * (n + 1) + 400 from rfl, Finset.sum_range_add]

/-- After the last grid point the column sums run over all nodes. -/
theorem Sv_last (k : Fin 128) : Sv m c 24 t24.isLt (ix2 0 k) = ∑ n : Fin 10000, hid (aP m c) (aAdj m c) (lin (aX1 m c) (aW m c) (aB m c)) n k := by
  rw [Sv_at, show 400 * (24 + 1) = 10000 from rfl, Finset.sum_range]
  refine Finset.sum_congr rfl fun n _ => ?_
  rw [col, dif_pos n.isLt, ← Hv_lo]

/-! ## The scores -/

/-- The launch's output holds the scores of both graphs, the readout multiplied into the weights first. -/
theorem Ov_at (n : Fin 20000) : Ov m c (ix2 0 n)
    = both scoreK (aX1 m c) (aX2 m c) (aAdj m c) (aW m c) (aB m c) (aP m c) (aWb m c) (aBias m c) n := by
  have hw : ∀ i j : Fin 128, iblk m c 5 t24 (ix2 i j) = aWb m c i j := fun i j => by rw [in_5]; rfl
  have hb : iblk m c 6 t24 (ix2 0 0) = aBias m c := by rw [in_6]; rfl
  unfold both
  by_cases hn : n.val < 10000
  · rw [dif_pos hn]
    have e : Ov m c (ix2 0 n) = k0_pay9 (Sv m c 24 t24.isLt) (iblk m c 5 t24) (iblk m c 6 t24) (Hv m c) (ix2 0 ⟨n.val, hn⟩) := by
      unfold Ov scores
      rw [dif_pos (show (ix2 0 n 1).val < 10000 from hn)]
      rfl
    rw [e, pay9_at]
    simp only [Sv_last, Hv_lo, hw, hb]
    rfl
  · rw [dif_neg hn]
    have e : Ov m c (ix2 0 n) = k0_pay10 (Sv m c 24 t24.isLt) (iblk m c 5 t24) (iblk m c 6 t24) (Hv m c) (ix2 0 ⟨n.val - 10000, by have := n.isLt; omega⟩) := by
      unfold Ov scores
      rw [dif_neg (show ¬(ix2 0 n 1).val < 10000 from hn)]
      rfl
    rw [e, pay10_at]
    simp only [Sv_last, Hv_hi, hw, hb]
    rfl

end Cert.Gcn

end
-- ==== Proof.RefValue.lean ====
/-
  What the reference computes over the extended reals, stage by stage: the linear layer, the hidden layer, the readout, the
  scores, and its result.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.Gcn.Ref

open Cert.ReferenceIdeal Cert.ReferenceIdeal.Gen Cert.ReferenceIdeal.Read
open Idealize.ShloMosaic Idealize.ShloMosaic.TcCoe Idealize.ShloMosaic.Tactic

variable (x0 x1 : Vec Ideal S1x10000x128 .f32) (x2 : Vec Ideal S10000x10000 .f32) (x3 : Vec Ideal S128x128 .f32) (x4 : Vec Ideal S128 .f32)
  (x5 : Vec Ideal S1 .f32) (x6 : Vec Ideal S1x128x128 .f32) (x7 : Vec Ideal S1 .f32)

/-- The linear layer, of the arrays. -/
abbrev linA (n : Fin 10000) (k : Fin 128) : EReal := lin (fun n f => x0 (ix3 0 n f)) (fun k f => x3 (ix2 k f)) (fun k => x4 (ix1 k)) n k

/-- The hidden layer, of the arrays. -/
abbrev hidA (n : Fin 10000) (k : Fin 128) : EReal := hid (x5 (ix1 0)) (fun n q => x2 (ix2 n q)) (linA x0 x3 x4) n k

/-- The reference's linear layer. -/
theorem lin_at (n : Fin 10000) (k : Fin 128) : val_main_v5 (F := Ideal) x0 x3 x4 (ix2 n k) = linA x0 x3 x4 n k := by
  pointwise [val_main_v5, val_main_v4, val_main_v3, val_main_v2, val_main_v1, val_main_v0]
  rfl

/-- The features aggregated over the graph. -/
theorem agg_at (n : Fin 10000) (k : Fin 128) :
    val_main_v6 (F := Ideal) x0 x2 x3 x4 (ix2 n k) = ∑ q : Fin 10000, x2 (ix2 n q) * linA x0 x3 x4 q k := by
  simp only [← lin_at]
  unfold val_main_v6
  generalize val_main_v5 (F := Ideal) x0 x3 x4 = y
  pointwise

/-- The reference's hidden layer. -/
theorem hid_at (n : Fin 10000) (k : Fin 128) : val_main_v13 (F := Ideal) x0 x2 x3 x4 x5 (ix3 0 n k) = hidA x0 x2 x3 x4 x5 n k := by
  unfold hidA hid
  rw [← agg_at]
  unfold val_main_v13 val_main_v9 val_main_v12 val_main_v7
  generalize val_main_v6 (F := Ideal) x0 x2 x3 x4 = y
  pointwise [val_main_v8, val_main_v11, val_main_v10, val_main_cst]
  rfl

/-- The second graph's hidden layer is the first's function of its features. -/
theorem hid2_at (n : Fin 10000) (k : Fin 128) : val_main_v27 (F := Ideal) x1 x2 x3 x4 x5 (ix3 0 n k) = hidA x1 x2 x3 x4 x5 n k :=
  (show val_main_v27 (F := Ideal) x1 x2 x3 x4 x5 (ix3 0 n k) = val_main_v13 (F := Ideal) x1 x2 x3 x4 x5 (ix3 0 n k) from rfl).trans (hid_at x1 x2 x3 x4 x5 n k)

/-- The reference's divisor is the number of nodes. -/
theorem n_value : Ideal.ofBits .f32 0x461C4000#32 = ((10000 : ℝ) : EReal) := by
  simp [Ideal.ofBits, Ideal.ieee, -EReal.coe_mul]
  norm_num

/-- Dividing by the number of nodes is multiplying by its reciprocal. -/
theorem div_n (x : EReal) : Ideal.div x ((10000 : ℝ) : EReal) = x * ((10000⁻¹ : ℝ) : EReal) := by
  rw [Ideal.div_coe (by norm_num : (10000 : ℝ) ≠ 0), one_div]

/-- The reference's readout, the same for every node. -/
theorem readout_at (n : Fin 10000) (k : Fin 128) :
    val_main_v38 (F := Ideal) x0 x2 x3 x4 x5 (ix3 0 n k) = readout (hidA x0 x2 x3 x4 x5) k := by
  have e : readout (hidA x0 x2 x3 x4 x5) k
      = Ideal.logistic (Ideal.div (∑ n : Fin 10000, val_main_v13 (F := Ideal) x0 x2 x3 x4 x5 (ix3 0 n k)) ((10000 : ℝ) : EReal)) := by
    simp only [hid_at, div_n]
    rfl
  rw [e]
  unfold val_main_v38 val_main_v37 val_main_v36 val_main_v34 val_main_v32 val_main_v31 val_main_v30 val_main_v28
  generalize val_main_v13 (F := Ideal) x0 x2 x3 x4 x5 = h
  pointwise [val_main_v35, val_main_v33, val_main_v29, val_main_cst_1, val_main_cst_2, val_main_cst_3, val_main_cst_4]
  rw [n_value]
  rfl

/-- The weights multiplied into the hidden layer. -/
theorem wh_at (j : Fin 128) (n : Fin 10000) :
    val_main_v39 (F := Ideal) x0 x2 x3 x4 x5 x6 (ix4 0 j 0 n) = ∑ i : Fin 128, x6 (ix3 0 i j) * hidA x0 x2 x3 x4 x5 n i := by
  simp only [← hid_at]
  unfold val_main_v39
  generalize val_main_v13 (F := Ideal) x0 x2 x3 x4 x5 = h
  pointwise

/-- The scores of the reference, of the arrays. -/
abbrev scoreA (h : Fin 10000 → Fin 128 → EReal) (n : Fin 10000) : EReal :=
  scoreR (readout (hidA x0 x2 x3 x4 x5)) (fun i j => x6 (ix3 0 i j)) (x7 (ix1 0)) h n

/-- The first graph's scores. -/
theorem score1_at (n : Fin 10000) : val_main_v44 (F := Ideal) x0 x2 x3 x4 x5 x6 x7 (ix2 0 n)
    = scoreA x0 x2 x3 x4 x5 x6 x7 (hidA x0 x2 x3 x4 x5) n := by
  unfold scoreA scoreR
  simp only [← readout_at x0 x2 x3 x4 x5 n, ← wh_at x0 x2 x3 x4 x5 x6]
  unfold val_main_v44 val_main_v43 val_main_v40
  generalize val_main_v38 (F := Ideal) x0 x2 x3 x4 x5 = s
  generalize val_main_v39 (F := Ideal) x0 x2 x3 x4 x5 x6 = g
  pointwise [val_main_v42, val_main_v41]

/-- The weights multiplied into the second graph's hidden layer. -/
theorem wh2_at (j : Fin 128) (n : Fin 10000) :
    val_main_v45 (F := Ideal) x1 x2 x3 x4 x5 x6 (ix4 0 j 0 n) = ∑ i : Fin 128, x6 (ix3 0 i j) * hidA x1 x2 x3 x4 x5 n i := by
  simp only [← hid2_at]
  unfold val_main_v45
  generalize val_main_v27 (F := Ideal) x1 x2 x3 x4 x5 = h
  pointwise

/-- The second graph's scores, against the first graph's readout. -/
theorem score2_at (n : Fin 10000) : val_main_v50 (F := Ideal) x0 x1 x2 x3 x4 x5 x6 x7 (ix2 0 n)
    = scoreA x0 x2 x3 x4 x5 x6 x7 (hidA x1 x2 x3 x4 x5) n := by
  unfold scoreA scoreR
  simp only [← readout_at x0 x2 x3 x4 x5 n, ← wh2_at x1 x2 x3 x4 x5 x6]
  unfold val_main_v50 val_main_v49 val_main_v46
  generalize val_main_v38 (F := Ideal) x0 x2 x3 x4 x5 = s
  generalize val_main_v45 (F := Ideal) x1 x2 x3 x4 x5 x6 = g
  pointwise [val_main_v48, val_main_v47]

/-- The reference's result. -/
theorem result_at (n : Fin 20000) : val_main_v51 (F := Ideal) x0 x1 x2 x3 x4 x5 x6 x7 (ix2 0 n)
    = both scoreR (fun n f => x0 (ix3 0 n f)) (fun n f => x1 (ix3 0 n f)) (fun n q => x2 (ix2 n q)) (fun k f => x3 (ix2 k f)) (fun k => x4 (ix1 k))
      (x5 (ix1 0)) (fun i j => x6 (ix3 0 i j)) (x7 (ix1 0)) n := by
  unfold both
  by_cases hn : n.val < 10000
  · rw [dif_pos hn]
    refine Eq.trans ?_ (score1_at x0 x2 x3 x4 x5 x6 x7 ⟨n.val, hn⟩)
    unfold val_main_v51
    generalize val_main_v44 (F := Ideal) x0 x2 x3 x4 x5 x6 x7 = a
    generalize val_main_v50 (F := Ideal) x0 x1 x2 x3 x4 x5 x6 x7 = b
    pointwise
    rw [dif_pos hn]
  · rw [dif_neg hn]
    refine Eq.trans ?_ (score2_at x0 x1 x2 x3 x4 x5 x6 x7 ⟨n.val - 10000, by have := n.isLt; omega⟩)
    unfold val_main_v51
    generalize val_main_v44 (F := Ideal) x0 x2 x3 x4 x5 x6 x7 = a
    generalize val_main_v50 (F := Ideal) x0 x1 x2 x3 x4 x5 x6 x7 = b
    pointwise
    rw [dif_neg hn]

end Cert.Gcn.Ref

end
-- ==== Proof.Finite.lean ====
/-
  What the precondition says over the extended reals: every element of every argument but the bilinear bias is a real number.
-/
module

public import proofs.«01_k».proof.Defs
public import proofs.«01_k».proof.Proof.Spec
public import Idealize.ShloMosaic.Lib.Pointwise

@[expose] public section

set_option maxRecDepth 16384

noncomputable section

namespace Cert.Gcn

open Idealize.ShloMosaic Idealize.ShloMosaic.TcCoe Idealize.ShloMosaic.Tactic Cert.Pre_finite

/-- The precondition's shape conditions. -/
theorem pre_facts : Cert.Pre_finite.Facts := by
  constructor <;> decide

/-- An element below infinity in absolute value is a real number. -/
theorem real_of_lt {s : Shape} (x : FVec Ideal s .f32) (h : S_.BroadcastsInDim s (![] : Fin 0 → Fin s.rank))
    (e : cmpf .olt (Host.absf x) (broadcastInDim s ![] h (constant (F := Ideal) S_ .f32 0x7F800000#32)) = fun _ => 1#1) (i : s.Idx) : IsReal (x i) := by
  have e' := congrFun e i
  pointwise at e'
  have ht : Ideal.ofBits .f32 0x7F800000#32 = (⊤ : EReal) := by simp [Ideal.ofBits, Ideal.ieee]
  rw [ht] at e'
  have hlt : max (x i) (-(x i)) < (⊤ : EReal) := by
    by_contra hn
    have : decide ((FloatOps.absf (x i) : EReal) < ⊤) = false := decide_eq_false hn
    rw [this] at e'
    exact absurd e' (by decide)
  have h1 : x i ≠ ⊤ := ((le_max_left _ _).trans_lt hlt).ne
  have h2 : x i ≠ ⊥ := fun hb => by
    have := (le_max_right (x i) (-(x i))).trans_lt hlt
    rw [hb, EReal.neg_bot] at this
    exact lt_irrefl _ this
  exact ⟨(x i).toReal, (EReal.coe_toReal h1 h2).symm⟩

/-- Every element of the seven arguments the precondition names is a real number. -/
theorem pre_real [Cert.Pre_finite.Facts] {m : (ℓ : Loc Cert.KernelIdeal.nD Cert.KernelIdeal.τ Cert.KernelIdeal.sig) → Buf (Elt Ideal) ℓ} (hm : Pre_KernelIdeal_finite m)
    (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  obtain ⟨h0, h1, h2, h3, h4, h5, h6⟩ := hm c
  exact ⟨real_of_lt _ _ h0, real_of_lt _ _ h1, real_of_lt _ _ h2, real_of_lt _ _ h3, real_of_lt _ _ h4, real_of_lt _ _ h5, real_of_lt _ _ h6⟩

end Cert.Gcn

end
-- ==== Proof.Equation.lean ====
/-
  The equation: on arguments the precondition admits, the kernel's result array and the reference's hold the same values.
-/
module

public import proofs.«01_k».proof.Proof.KI.Result
public import proofs.«01_k».proof.Proof.RefValue
public import proofs.«01_k».proof.Proof.Finite

@[expose] public section

set_option maxRecDepth 16384

noncomputable section

namespace Cert.Gcn

open Idealize.ShloMosaic Idealize.ShloMosaic.TcCoe Idealize.ShloMosaic.Tactic

/-- The kernel's result is the reference's function of the kernel's arguments. -/
theorem result_eq [Cert.Pre_finite.Facts] {m : (ℓ : Loc Cert.KernelIdeal.nD Cert.KernelIdeal.τ Cert.KernelIdeal.sig) → Buf (Elt Ideal) ℓ}
    (hm : Pre_KernelIdeal_finite m) (c : Dev Cert.KernelIdeal.nD) :
    Ov m c = Cert.ReferenceIdeal.Read.val_main_v51 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, h4, h5, h6⟩ := pre_real hm c
  funext i
  have hi : i = ix2 0 (i 1) := funext fun a => by
    match a with
    | ⟨0, _⟩ => exact Fin.ext (by have : (i 0).val < 1 := (i 0).isLt; show (i 0).val = 0; omega)
    | ⟨1, _⟩ => rfl
  rw [hi]
  exact (Ov_at m c (i 1)).trans ((both_eq _ (fun n f => h0 (ix3 0 n f)) (fun n f => h1 (ix3 0 n f)) (fun n q => h2 (ix2 n q)) (fun k f => h3 (ix2 k f))
    (fun k => h4 (ix1 k)) (h5 (ix1 0)) (fun i j => h6 (ix3 0 i j)) (i 1)).trans (Ref.result_at _ _ _ _ _ _ _ _ (i 1)).symm)

end Cert.Gcn

end
-- ==== Proof.lean ====
/-
  The proof of `Cert.Claim`: the two programs' and the reference's frames, the named constant, and the value claim that over
  the extended reals the kernel's result array equals the reference's.
-/
module

public import proofs.«01_k».proof.Defs
public import proofs.«01_k».proof.Proof.KernelFrame
public import proofs.«01_k».proof.Proof.KI.RunValue
public import proofs.«01_k».proof.Proof.Equation
public import Idealize.ShloMosaic.Adequacy
public import Idealize.ShloMosaic.Init

@[expose] public section

noncomputable section

namespace Cert.Proof

open Idealize.ShloMosaic Idealize.SL.Sem

/-- The printed kernel runs, leaves its arguments as they were and every semaphore counter at zero. -/
theorem frame_kernel : Cert.quiescent_Kernel := fun m g _ => Cert.Gcn.kernel_frame m g

/-- So does the idealized kernel, -/
theorem frame_ideal : Cert.quiescent_KernelIdeal := fun m g _ => Cert.Gcn.frame m g

/-- and the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The constant that the idealization names is, over the extended reals, the reciprocal of the number of nodes. -/
theorem named : Cert.preserves_Kernel_KernelIdeal :=
  IdealRules.named_const.statement Cert.KernelIdeal.κ "inv_n" .f32 0x38D1B717#32 ((10000⁻¹ : ℝ) : EReal) rfl

/-- The value claim: from memories that agree on the arguments, finite but for the bilinear bias, the kernel's result equals the reference's. -/
theorem value [Cert.Pre_finite.Facts] : Cert.algebraic_KernelIdeal_ReferenceIdeal_pre_finite := by
  intro m g m' g' hm hag
  refine ⟨fun c => Cert.Gcn.Ov m c, Cert.Gcn.run_value m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7⟩ := hag c
  rw [Cert.ReferenceIdeal.Read.val_main_v51_eq, e0, e1, e2, e3, e4, e5, e6, e7]
  exact (Cert.Gcn.result_eq hm c).symm

/-- All the claims together. -/
theorem claim : Cert.Claim :=
  ⟨Cert.Kernel.Gen.facts, Cert.KernelIdeal.Gen.facts, Cert.ReferenceIdeal.Gen.facts, Cert.Gcn.pre_facts,
    frame_kernel, frame_ideal, fun m g _ => frame_ideal m g trivial, frame_reference, fun m g _ => frame_reference m g trivial, named,
    letI := Cert.Gcn.pre_facts; value⟩

end Cert.Proof

end
